-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![16384, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![4096, 1024]⟩ ⟨2, ![16384, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S16384x1024 : Shape := ⟨2, ![16384, 1024]⟩
abbrev S16384x128 : Shape := ⟨2, ![16384, 128]⟩
abbrev S_ : Shape := ⟨0, ![]⟩
abbrev S3 : Shape := ⟨1, ![3]⟩
abbrev S4096x128 : Shape := ⟨2, ![4096, 128]⟩
abbrev S4096x1 : Shape := ⟨2, ![4096, 1]⟩
abbrev S1 : Shape := ⟨1, ![1]⟩
abbrev S8192x128 : Shape := ⟨2, ![8192, 128]⟩
abbrev S8192x1 : Shape := ⟨2, ![8192, 1]⟩

abbrev nBuf : Space → Nat
  | .hbm => 3
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S16384x1024, .bf16⟩
  | .local _ .vmem, ⟨0, _⟩ => ⟨S4096x1024, .bf16⟩
  | .local _ .vmem, ⟨1, _⟩ => ⟨S4096x1024, .bf16⟩
  | .local _ .vmem, ⟨2, _⟩ => ⟨S16384x128, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_v1_0 : Ref sig .tc := ⟨.hbm, 1, rfl⟩
abbrev main_v1_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

@[reducible] def k0_t1_loop : Scf.Loop 32 :=
  let c0_i32 : BitVec 32 := 0#32
  let c8_i32 : BitVec 32 := 8#32
  let v11 : BitVec 32 := Scalar.addi c0_i32 c8_i32
  let c1_i32_7 : BitVec 32 := 1#32
  ⟨c0_i32, v11, c1_i32_7⟩
def k0_off1 (k0_t1 : Fin k0_t1_loop.trips) : Fin 2 → Nat :=
  let c0 : Index := 0#32
  let c0_i32 : BitVec 32 := 0#32
  let c1_i32_7 : BitVec 32 := 1#32
  let arg7 : BitVec 32 := Scf.iv c0_i32 c1_i32_7 k0_t1
  let c128_i32 : BitVec 32 := 128#32
  let v86 : BitVec 32 := Scalar.muli arg7 c128_i32
  let v87 : Index := Scalar.indexCast v86
  ![0, v87.toNat]
@[reducible] def k0_t2_loop : Scf.Loop 32 :=
  let c1_i32_84 : BitVec 32 := 1#32
  let c12_i32 : BitVec 32 := 12#32
  let v91 : BitVec 32 := Scalar.addi c1_i32_84 c12_i32
  let c1_i32_85 : BitVec 32 := 1#32
  ⟨c1_i32_84, v91, c1_i32_85⟩
@[reducible] def k0_t3_loop (k0_t2 : Fin k0_t2_loop.trips) : Scf.Loop 32 :=
  let c0_i32_90 : BitVec 32 := 0#32
  let c1_i32_84 : BitVec 32 := 1#32
  let c1_i32_85 : BitVec 32 := 1#32
  let arg8 : BitVec 32 := Scf.iv c1_i32_84 c1_i32_85 k0_t2
  let v103 : BitVec 32 := Scalar.subi arg8 c0_i32_90
  let c1_i32_91 : BitVec 32 := 1#32
  let v105 : BitVec 32 := Scalar.divsi v103 c1_i32_91
  let v106 : BitVec 32 := Scalar.muli v105 c1_i32_91
  let v107 : BitVec 32 := Scalar.addi c0_i32_90 v106
  let c1_i32_92 : BitVec 32 := 1#32
  ⟨c0_i32_90, v107, c1_i32_92⟩
@[reducible] def k0_t4_loop (k0_t2 : Fin k0_t2_loop.trips) : Scf.Loop 32 :=
  let c0_i32_90 : BitVec 32 := 0#32
  let c1_i32_84 : BitVec 32 := 1#32
  let c1_i32_85 : BitVec 32 := 1#32
  let arg8 : BitVec 32 := Scf.iv c1_i32_84 c1_i32_85 k0_t2
  let v103 : BitVec 32 := Scalar.subi arg8 c0_i32_90
  let c1_i32_91 : BitVec 32 := 1#32
  let v105 : BitVec 32 := Scalar.divsi v103 c1_i32_91
  let v106 : BitVec 32 := Scalar.muli v105 c1_i32_91
  let v107 : BitVec 32 := Scalar.addi c0_i32_90 v106
  let v104 : BitVec 32 := Scalar.addi c0_i32_90 v103
  let c1_i32_93 : BitVec 32 := 1#32
  ⟨v107, v104, c1_i32_93⟩
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4096_i32 : BitVec 32 := 4096#32
  let v10 : BitVec 32 := Scalar.muli v2 c4096_i32
  let c0_i32_9 : BitVec 32 := 0#32
  ![v10.toNat, 0]
def k0_dev1 (d0 : Dev nD) : Nat :=
  let c0_i32_13 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_12 : BitVec 32 := 1#32
  let v15 : BitVec 32 := Scalar.muli v7 c1_i32_12
  let v16 : BitVec 32 := Scalar.addi c0_i32_13 v15
  v16.toNat
def k0_dev2 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_15 : BitVec 32 := 1#32
  let v17 : BitVec 32 := Scalar.muli v4 c1_i32_15
  let v18 : BitVec 32 := Scalar.addi c0_i32_16 v17
  v18.toNat
def k0_off3 (d0 : Dev nD) (c0_i32_17 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v19 : BitVec 32 := Scalar.subi v2 c0_i32_17
  let c4_i32_18 : BitVec 32 := 4#32
  let v20 : BitVec 32 := Scalar.addi v19 c4_i32_18
  let c4_i32_19 : BitVec 32 := 4#32
  let v21 : BitVec 32 := Scalar.remsi v20 c4_i32_19
  let c4096_i32_20 : BitVec 32 := 4096#32
  let v22 : BitVec 32 := Scalar.muli v21 c4096_i32_20
  let c0_i32_25 : BitVec 32 := 0#32
  ![v22.toNat, 0]
def k0_dev3 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_23 : BitVec 32 := 1#32
  let v23 : BitVec 32 := Scalar.muli v4 c1_i32_23
  let v24 : BitVec 32 := Scalar.addi c0_i32_24 v23
  v24.toNat
def k0_dev4 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_44 : BitVec 32 := 1#32
  let v45 : BitVec 32 := Scalar.muli v4 c1_i32_44
  let v46 : BitVec 32 := Scalar.addi c0_i32_45 v45
  v46.toNat
def k0_dev5 (d0 : Dev nD) : Nat :=
  let c0_i32_66 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_65 : BitVec 32 := 1#32
  let v67 : BitVec 32 := Scalar.muli v4 c1_i32_65
  let v68 : BitVec 32 := Scalar.addi c0_i32_66 v67
  v68.toNat
@[reducible] def k0_t5_loop : Scf.Loop 32 :=
  let c0_i32_80 : BitVec 32 := 0#32
  let c8_i32_81 : BitVec 32 := 8#32
  let v85 : BitVec 32 := Scalar.addi c0_i32_80 c8_i32_81
  let c1_i32_82 : BitVec 32 := 1#32
  ⟨c0_i32_80, v85, c1_i32_82⟩
def k0_off4 (k0_t5 : Fin k0_t5_loop.trips) : Fin 2 → Nat :=
  let c0_i32_84 : BitVec 32 := 0#32
  let c0_i32_80 : BitVec 32 := 0#32
  let c1_i32_82 : BitVec 32 := 1#32
  let arg7 : BitVec 32 := Scf.iv c0_i32_80 c1_i32_82 k0_t5
  let c128_i32 : BitVec 32 := 128#32
  let v86 : BitVec 32 := Scalar.muli arg7 c128_i32
  ![0, v86.toNat]
@[reducible] def k0_t6_loop : Scf.Loop 32 :=
  let c0_i32_86 : BitVec 32 := 0#32
  let c2_i32_87 : BitVec 32 := 2#32
  let v89 : BitVec 32 := Scalar.addi c0_i32_86 c2_i32_87
  let c1_i32_88 : BitVec 32 := 1#32
  ⟨c0_i32_86, v89, c1_i32_88⟩
def k0_off5 (k0_t6 : Fin k0_t6_loop.trips) : Fin 2 → Nat :=
  let c0_i32_86 : BitVec 32 := 0#32
  let c1_i32_88 : BitVec 32 := 1#32
  let arg8 : BitVec 32 := Scf.iv c0_i32_86 c1_i32_88 k0_t6
  let c8192_i32 : BitVec 32 := 8192#32
  let v105 : BitVec 32 := Scalar.muli arg8 c8192_i32
  let v106 : Index := Scalar.indexCast v105
  let c0_102 : Index := 0#32
  ![v106.toNat, 0]
@[reducible] def k0_t7_loop : Scf.Loop 32 :=
  let c0_i32_104 : BitVec 32 := 0#32
  let c13_i32 : BitVec 32 := 13#32
  let v110 : BitVec 32 := Scalar.addi c0_i32_104 c13_i32
  let c1_i32_105 : BitVec 32 := 1#32
  ⟨c0_i32_104, v110, c1_i32_105⟩
@[reducible] def k0_t8_loop : Scf.Loop 32 :=
  let c0_i32_96 : BitVec 32 := 0#32
  let c2_i32_97 : BitVec 32 := 2#32
  let v100 : BitVec 32 := Scalar.addi c0_i32_96 c2_i32_97
  let c1_i32_98 : BitVec 32 := 1#32
  ⟨c0_i32_96, v100, c1_i32_98⟩
def k0_off6 (k0_t8 : Fin k0_t8_loop.trips) : Fin 2 → Nat :=
  let c0_i32_96 : BitVec 32 := 0#32
  let c1_i32_98 : BitVec 32 := 1#32
  let arg8 : BitVec 32 := Scf.iv c0_i32_96 c1_i32_98 k0_t8
  let c8192_i32 : BitVec 32 := 8192#32
  let v105 : BitVec 32 := Scalar.muli arg8 c8192_i32
  let v106 : Index := Scalar.indexCast v105
  let c0_102 : Index := 0#32
  ![v106.toNat, 0]
@[reducible] def k0_t9_loop : Scf.Loop 32 :=
  let c0_i32_103 : BitVec 32 := 0#32
  let c13_i32 : BitVec 32 := 13#32
  let v109 : BitVec 32 := Scalar.addi c0_i32_103 c13_i32
  let c1_i32_104 : BitVec 32 := 1#32
  ⟨c0_i32_103, v109, c1_i32_104⟩
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4096_i32 : BitVec 32 := 4096#32
  let v10 : BitVec 32 := Scalar.muli v2 c4096_i32
  let v101 : Index := Scalar.indexCast v10
  let c0_100 : Index := 0#32
  ![v101.toNat, 0]
def k0_off8 (k0_t5 : Fin k0_t5_loop.trips) : Fin 2 → Nat :=
  let c0_101 : Index := 0#32
  let c0_i32_80 : BitVec 32 := 0#32
  let c1_i32_82 : BitVec 32 := 1#32
  let arg7 : BitVec 32 := Scf.iv c0_i32_80 c1_i32_82 k0_t5
  let c128_i32 : BitVec 32 := 128#32
  let v86 : BitVec 32 := Scalar.muli arg7 c128_i32
  let v103 : Index := Scalar.indexCast v86
  ![0, v103.toNat]
abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x1024 : Shape := ⟨2, ![16384, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S16384x1024, .f32⟩
  | .hbm, ⟨3, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Proof.Ref.lean ====
/-
# `Ref`: the run of the reference

The reference is three operations in a row on one device: the array widened to f32, its columns sorted, the result
narrowed to bf16. Its result is stated here as one term, `refOut`, for any float values.
-/
module

public import proofs.«01_k».proof.Defs
public import proofs.«01_k».proof.Proof.Gen.ReferenceIdeal
public import Idealize.ShloMosaic.Lib.StableHlo.Run
public import Idealize.ShloMosaic.Lib.Quiescent

@[expose] public section

noncomputable section

namespace Cert.SortProof.Ref

open Cert.ReferenceIdeal Cert.ReferenceIdeal.Gen
open Idealize.ShloMosaic Idealize.ShloMosaic.TcCoe Idealize.ShloMosaic.StableHlo Idealize.SL.Sem

variable {F : FTy → Type} [FloatOps F]

/-- The reference's result: widen, sort every column, narrow. -/
def refOut (x : FVec F S16384x1024 .bf16) : FVec F S16384x1024 .bf16 :=
  truncf .bf16 (Host.sort S16384x1024 0 comparator_f32_d0 (extf .f32 x Facts₀.bitsLt_bf16_f32)) Facts₀.bitsLt_bf16_f32

/-- The three operations of the reference, in order. -/
abbrev ops : List (HloOp τ sig (Elt F)) :=
  [ unary main_arg0 main_v0 ((extf .f32 · Facts₀.bitsLt_bf16_f32) : (⟨S16384x1024, .bf16⟩ : BufTy).Contents (Elt F) → (⟨S16384x1024, .f32⟩ : BufTy).Contents (Elt F)),
    TRef.unary (.of main_v0) (.of main_v1) (fun x => Host.sort S16384x1024 0 comparator_f32_d0 x),
    unary main_v1 main_v2 ((truncf .bf16 · Facts₀.bitsLt_bf16_f32) : (⟨S16384x1024, .f32⟩ : BufTy).Contents (Elt F) → (⟨S16384x1024, .bf16⟩ : BufTy).Contents (Elt F)) ]

/-- The reference's program is these operations. -/
theorem main_eq (c : Dev nD) : main (F := F) c = seq ops := rfl

/-- What the last operation leaves in the result. -/
theorem out_eq (V : Valuation τ sig (Elt F)) :
    after ops V (main_v2 : DevRef τ sig) = refOut (V (main_arg0 : DevRef τ sig)) := by
  after_results
  rfl

/-- No operation writes the argument. -/
theorem arg0_eq (V : Valuation τ sig (Elt F)) :
    after ops V (main_arg0 : DevRef τ sig) = V (main_arg0 : DevRef τ sig) := by
  after_results

/-- No buffer of the reference is scoped. -/
theorem scopedRefs_eq : (Finset.univ.filter fun b : Ref sig .tc => b.isScoped) = ∅ := by decide

/-- No semaphore of the reference is scoped. -/
theorem scopedSems_eq : (Finset.univ.filter fun sm : SemLoc sig => sm.isScoped .tc) = ∅ := by decide

/-- Every operation works on buffers of the one core. -/
theorem ops_sub : (ops : List (HloOp τ sig (Elt F))).Forall fun op => op.bufs ⊆ tcRefs τ sig :=
  ⟨unary_bufs_sub .., unary_bufs_sub .., unary_bufs_sub ..⟩

/-- Every run of the reference ends with the result at `refOut` of the argument, and the argument as it was. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v2) = refOut (m ((c.tc : Thread nD τ).loc main_arg0))
        ∧ r.2.mem ((c.tc : Thread nD τ).loc main_arg0) = m ((c.tc : Thread nD τ).loc main_arg0) :=
  (θ_run defs _ _).mono (fun _ h c => ⟨(h c main_v2).trans (out_eq _), (h c main_arg0).trans (arg0_eq _)⟩)
    (run_seq scopedRefs_eq scopedSems_eq defs main (fun _ => ops) main_eq (fun _ => ops_sub) m ρ)

/-- The reference's frame: it ends, its argument is unchanged, and it has no semaphore. -/
theorem frame_reference : Cert.quiescent_ReferenceIdeal := by
  intro m ρ _
  exact (θ_run Cert.ReferenceIdeal.defs _ _).mono (fun r h => ⟨fun c => (h c).2, sem_eq_zero_of_no_sems (by decide) r.2⟩)
    (run_main (F := Ideal) m ρ)

end Cert.SortProof.Ref

end
-- ==== Proof.Common.lean ====
/-
# `Common`: the contents the distributed sort moves, and its counted loops as folds

The kernel sorts a 16384 × 1024 array column by column over four devices. Everything here is a function of values:
what a column chunk is, what the local bitonic sort of a chunk computes, what the gathered array holds and what the
merge of a gathered chunk computes. The run (Proof/Body.lean) ends at these; the mathematics (Proof/Value.lean)
reads them.
-/
module

public import proofs.«01_k».proof.Proof.Gen.KernelIdeal
public import proofs.«01_k».proof.Proof.Gen.KernelIdeal.Skeleton
public import Idealize.ShloMosaic.Lib.Scf

@[expose] public section

noncomputable section

namespace Cert.SortProof

open Cert.KernelIdeal Cert.KernelIdeal.Gen
open Idealize.ShloMosaic Idealize.ShloMosaic.TcCoe
open Idealize.SL.Sem

variable {F : FTy → Type} [FloatOps F]

/-! ## Folds over a loop's trips -/

/-- The value a loop of `n` trips leaves, started at `init`, when trip `k` takes `acc` to `g k acc`. -/
def foldFin {σ : Type} (n : ℕ) (g : Fin n → σ → σ) (init : σ) : σ :=
  (List.finRange n).foldl (fun acc k => g k acc) init

/-- Two folds of pointwise equal steps agree. -/
theorem foldFin_congr {σ : Type} {n : ℕ} {g h : Fin n → σ → σ} (H : ∀ k acc, g k acc = h k acc) (init : σ) :
    foldFin n g init = foldFin n h init := by
  have : g = h := funext fun k => funext fun acc => H k acc
  rw [this]

/-- No trip: the start. -/
theorem foldFin_zero {σ : Type} (g : Fin 0 → σ → σ) (init : σ) : foldFin 0 g init = init := by
  simp [foldFin]

/-- A fold by a property kept from trip to trip. -/
theorem foldFin_ind {σ : Type} (n : ℕ) (g : Fin n → σ → σ) (I : ℕ → σ → Prop) (init : σ) (h0 : I 0 init)
    (hs : ∀ (k : Fin n) acc, I k.val acc → I (k.val + 1) (g k acc)) : I n (foldFin n g init) := by
  have key : ∀ (l : List (Fin n)) (j : ℕ) (acc : σ), (List.finRange n).drop j = l → j ≤ n → I j acc →
      I n (l.foldl (fun acc k => g k acc) acc) := by
    intro l
    induction l with
    | nil =>
      intro j acc hl hj h
      have : n ≤ j := by
        have := congrArg List.length hl
        simp at this
        omega
      obtain rfl : j = n := by omega
      exact h
    | cons a l ih =>
      intro j acc hl hj h
      have hjn : j < n := by
        have := congrArg List.length hl
        simp at this
        omega
      have hd := List.drop_eq_getElem_cons (l := List.finRange n) (i := j) (by simpa using hjn)
      rw [hl] at hd
      have ha : a = ⟨j, hjn⟩ := by
        have := (List.cons.inj hd).1
        rw [this]
        apply Fin.ext
        simp
      have htl := (List.cons.inj hd).2
      rw [List.foldl_cons]
      refine ih (j + 1) _ htl.symm hjn ?_
      rw [ha]
      exact hs ⟨j, hjn⟩ acc h
  exact key _ 0 init (by simp) (Nat.zero_le _) h0

/-- A counted loop whose every trip returns `g k acc` returns the fold. -/
theorem for_ret.{v} {E : Type → Type v} {w : Nat} {σ : Type} (l : Scf.Loop w) (hok : l.OK) (init : σ)
    (body : Fin l.trips → σ → Prog E σ) (g : Fin l.trips → σ → σ) (hb : ∀ k acc, body k acc = .ret (g k acc)) :
    Scf.Loop.for l hok init body = .ret (foldFin l.trips g init) := by
  have hbody : body = fun k acc => .ret (g k acc) := funext fun k => funext fun acc => hb k acc
  subst hbody
  show Scf.for l.lb l.ub l.st hok init _ = _
  rw [Scf.for_eq]
  unfold foldFin
  generalize List.finRange l.trips = xs
  induction xs generalizing init with
  | nil => rfl
  | cons a xs ih =>
    rw [Scf.forFrom_cons, List.foldl_cons]
    exact ih _

/-! ## Indices of a rank-2 array -/

/-- The index (row `a`, column `b`). -/
def ix {n0 n1 : ℕ} (a : Fin n0) (b : Fin n1) : (⟨2, ![n0, n1]⟩ : Shape).Idx :=
  fun | ⟨0, _⟩ => a | ⟨1, _⟩ => b

@[simp] theorem ix_zero {n0 n1 : ℕ} (a : Fin n0) (b : Fin n1) : ix a b 0 = a := rfl
@[simp] theorem ix_one {n0 n1 : ℕ} (a : Fin n0) (b : Fin n1) : ix a b 1 = b := rfl

/-- Two indices with equal coordinates are equal. -/
theorem idx_ext {n0 n1 : ℕ} {i j : (⟨2, ![n0, n1]⟩ : Shape).Idx} (h0 : (i 0).val = (j 0).val) (h1 : (i 1).val = (j 1).val) : i = j := by
  funext a
  match a with
  | ⟨0, _⟩ => exact Fin.ext h0
  | ⟨1, _⟩ => exact Fin.ext h1

theorem ix_eta {n0 n1 : ℕ} (i : (⟨2, ![n0, n1]⟩ : Shape).Idx) : ix (n0 := n0) (n1 := n1) (i 0) (i 1) = i := idx_ext rfl rfl

/-- An index's column is below the column count, its row below the row count. -/
theorem row_lt {n0 n1 : ℕ} (i : (⟨2, ![n0, n1]⟩ : Shape).Idx) : (i 0).val < n0 := (i 0).isLt
theorem col_lt {n0 n1 : ℕ} (i : (⟨2, ![n0, n1]⟩ : Shape).Idx) : (i 1).val < n1 := (i 1).isLt

/-! ## Column chunks, row halves -/

/-- The `k`-th chunk of 128 columns of an array of 1024. -/
def colChunk {β : Type} {n : ℕ} (x : (⟨2, ![n, 1024]⟩ : Shape).Idx → β) (k : Fin 8) : (⟨2, ![n, 128]⟩ : Shape).Idx → β :=
  fun y => x (ix (n0 := n) (n1 := 1024) (y 0) ⟨128 * k.val + (y 1).val, by have := col_lt y; have := k.isLt; omega⟩)

/-- The chunk a column lies in, and its place there. -/
def chunkOf {n : ℕ} (i : (⟨2, ![n, 1024]⟩ : Shape).Idx) : Fin 8 := ⟨(i 1).val / 128, by have := col_lt i; omega⟩
def inChunk {n : ℕ} (i : (⟨2, ![n, 1024]⟩ : Shape).Idx) : (⟨2, ![n, 128]⟩ : Shape).Idx :=
  ix (n0 := n) (n1 := 128) (i 0) ⟨(i 1).val % 128, Nat.mod_lt _ (by decide)⟩

/-- The `h`-th half, of 8192 rows, of a chunk of 16384. -/
def rowHalf {β : Type} (w : S16384x128.Idx → β) (h : Fin 2) : S8192x128.Idx → β :=
  fun y => w (ix (n0 := 16384) (n1 := 128) ⟨8192 * h.val + (y 0).val, by have := row_lt y; have := h.isLt; omega⟩ (y 1))
def halfOf (i : S16384x128.Idx) : Fin 2 := ⟨(i 0).val / 8192, by have := row_lt i; omega⟩
def inHalf (i : S16384x128.Idx) : S8192x128.Idx :=
  ix (n0 := 8192) (n1 := 128) ⟨(i 0).val % 8192, Nat.mod_lt _ (by decide)⟩ (i 1)

/-! ## The loops' trip counts -/

theorem trips1 : k0_t1_loop.trips = 8 := by decide +kernel
theorem trips5 : k0_t5_loop.trips = 8 := by decide +kernel
theorem trips6 : k0_t6_loop.trips = 2 := by decide +kernel
theorem trips8 : k0_t8_loop.trips = 2 := by decide +kernel

/-! ## What the kernel computes -/

/-- One phase of the local sort of a chunk, on device `c`: the stages of block size `2 ^ (k + 1)`. -/
def phase (c : Dev nD) (k : Fin k0_t2_loop.trips) (acc : FVec F S4096x128 .bf16) : FVec F S4096x128 .bf16 :=
  foldFin (k0_t4_loop k).trips (k0_pay10 c k) (foldFin (k0_t3_loop k).trips (k0_pay9 c k) acc)

/-- The local sort of a chunk on device `c`. -/
def sortCh (c : Dev nD) (v : FVec F S4096x128 .bf16) : FVec F S4096x128 .bf16 :=
  foldFin k0_t2_loop.trips (phase c) (k0_pay7 v)

/-- A device's block, each of its chunks sorted. -/
def locSort (c : Dev nD) (x : FVec F S4096x1024 .bf16) : FVec F S4096x1024 .bf16 :=
  fun i => sortCh c (colChunk x (chunkOf i)) (inChunk i)

/-- The gathered array: rows `4096 j …` are device `j`'s sorted block. -/
def gathAll (X : Dev nD → FVec F S4096x1024 .bf16) : FVec F S16384x1024 .bf16 :=
  fun i => locSort ⟨(i 0).val / 4096, by have := row_lt i; show _ < 4; omega⟩ (X ⟨(i 0).val / 4096, by have := row_lt i; show _ < 4; omega⟩)
    (ix (n0 := 4096) (n1 := 1024) ⟨(i 0).val % 4096, Nat.mod_lt _ (by decide)⟩ (i 1))

/-- The first merge of half `h` of a gathered chunk. -/
def half1 (h : Fin k0_t6_loop.trips) (v : FVec F S8192x128 .bf16) : FVec F S8192x128 .bf16 :=
  k0_pay2 (foldFin k0_t7_loop.trips (k0_pay1 h) v)

/-- The last merge of a half. -/
def half2 (v : FVec F S8192x128 .bf16) : FVec F S8192x128 .bf16 :=
  k0_pay6 (foldFin k0_t9_loop.trips k0_pay5 v)

/-- The chunk after the two first merges. -/
def merge1 (w : FVec F S16384x128 .bf16) : FVec F S16384x128 .bf16 :=
  fun i => half1 (Fin.cast trips6.symm (halfOf i)) (rowHalf w (halfOf i)) (inHalf i)

/-- The chunk after the exchange across the two halves. -/
def cross (w : FVec F S16384x128 .bf16) : FVec F S16384x128 .bf16 :=
  fun i => if (i 0).val < 8192 then k0_pay3 (rowHalf w 0) (rowHalf w 1) (inHalf i) else k0_pay4 (rowHalf w 0) (rowHalf w 1) (inHalf i)

/-- The chunk after the two last merges. -/
def merge2 (w : FVec F S16384x128 .bf16) : FVec F S16384x128 .bf16 :=
  fun i => half2 (rowHalf w (halfOf i)) (inHalf i)

/-- The merge of a gathered chunk. -/
def mergeCh (w : FVec F S16384x128 .bf16) : FVec F S16384x128 .bf16 := merge2 (cross (merge1 w))

/-- Device `c`'s rows of a chunk. -/
def myRows (c : Dev nD) (w : FVec F S16384x128 .bf16) : FVec F S4096x128 .bf16 :=
  fun y => w (ix (n0 := 16384) (n1 := 128) ⟨4096 * c.val + (y 0).val, by have := row_lt y; have : c.val < 4 := c.isLt; omega⟩ (y 1))

/-- What device `c` ends with, from the gathered array. -/
def outOf (c : Dev nD) (g : FVec F S16384x1024 .bf16) : FVec F S4096x1024 .bf16 :=
  fun i => myRows c (mergeCh (colChunk g (chunkOf i))) (inChunk i)

end Cert.SortProof

end
-- ==== Proof.Loops.lean ====
/-
# `Loops`: the kernel's loops over the contents of its buffers

The loops that carry a chunk through registers are equal to returning a fold (`t7_eq`, `t9_eq`, `t2_eq`). The loops
that store into a buffer are run once each: the local sort of the block chunk by chunk (`wp_t1`), and the two merges of a
gathered chunk's halves (`wp_t6`, `wp_t8`). Each ends with its buffer at the contents named in Proof/Common.lean.
-/
module

public import proofs.«01_k».proof.Proof.Common
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.WritesUnit
public import Idealize.ShloMosaic.Lib.Transfers

@[expose] public section

noncomputable section

namespace Cert.SortProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, the ring's rounds (duties `Bool`), the local copies' counters -/

abbrev UB : Type := URounds (GSem nD τ sig) Bool
abbrev UU : Type := UR sig nD τ × (UB × Counters)

local notation "𝕄" => MT nD τ sig Unit (Elt F) ℕ UU ℕ

/-! ## The memrefs -/

abbrev xM : Memref sig .tc .vmem S4096x1024 .bf16 := Memref.whole cc0_stg0_0
abbrev oM : Memref sig .tc .vmem S4096x1024 .bf16 := Memref.whole cc0_stg1_0
abbrev gM : Memref sig .tc .hbm S16384x1024 .bf16 := Memref.whole main_v1_1
abbrev sM : Memref sig .tc .vmem S16384x128 .bf16 := Memref.whole cc0_scratch0

/-- Device `c`'s whole input block, output block, gathered array and stage, at contents `f`. -/
def xPts (c : Dev nD) (f : FVec F S4096x1024 .bf16) : sProp 𝕄 := ((c : Thread nD τ).loc cc0_stg0_0) ↦{fullShare} f
def oPts (c : Dev nD) (f : FVec F S4096x1024 .bf16) : sProp 𝕄 := ((c : Thread nD τ).loc cc0_stg1_0) ↦{fullShare} f
def gPts (c : Dev nD) (f : FVec F S16384x1024 .bf16) : sProp 𝕄 := ((c : Thread nD τ).loc main_v1_1) ↦{fullShare} f
def sPts (c : Dev nD) (f : FVec F S16384x128 .bf16) : sProp 𝕄 := ((c : Thread nD τ).loc cc0_scratch0) ↦{fullShare} f

omit [FloatOps F] in
theorem sPts_eq (c : Dev nD) (f : FVec F S16384x128 .bf16) : sPts (F := F) c f = (((sM).view.loc (c : Thread nD τ)) ↦{fullShare} f) := rfl

/-! ## What a load of a chunk or half reads, and what a store of one leaves -/

theorem two_axes {P : Fin 2 → Prop} (h0 : P 0) (h1 : P 1) (a : Fin 2) : P a := by
  match a with
  | ⟨0, _⟩ => exact h0
  | ⟨1, _⟩ => exact h1

omit [FloatOps F] in
theorem read_x_chunk {off : Fin 2 → ℕ} (t : Fin 8) (ho : off = ![0, 128 * t.val]) (inb : ∀ a, off a + S4096x128.size a ≤ S4096x1024.size a)
    (f : FVec F S4096x1024 .bf16) :
    (xM).view.readAt (Elt F) (Rect.unit (s := S4096x1024) off S4096x128.size inb).toLoadRect f = colChunk (n := 4096) f t := by
  subst ho
  funext y
  show f _ = f _
  refine congrArg f (idx_ext (n0 := 4096) (n1 := 1024) ?_ ?_)
  · show 0 + 1 * (y 0).val = (y 0).val
    omega
  · show 128 * t.val + 1 * (y 1).val = 128 * t.val + (y 1).val
    omega

omit [FloatOps F] in
theorem read_s_rows {off : Fin 2 → ℕ} (h : Fin 2) (ho : off = ![8192 * h.val, 0]) (inb : ∀ a, off a + S8192x128.size a ≤ S16384x128.size a)
    (f : FVec F S16384x128 .bf16) :
    (sM).view.readAt (Elt F) (Rect.unit (s := S16384x128) off S8192x128.size inb).toLoadRect f = rowHalf f h := by
  subst ho
  funext y
  show f _ = f _
  refine congrArg f (idx_ext (n0 := 16384) (n1 := 128) ?_ ?_)
  · show 8192 * h.val + 1 * (y 0).val = 8192 * h.val + (y 0).val
    omega
  · show 0 + 1 * (y 1).val = (y 1).val
    omega

omit [FloatOps F] in
theorem read_s_mine {off : Fin 2 → ℕ} (c : Dev nD) (ho : off = ![4096 * c.val, 0]) (inb : ∀ a, off a + S4096x128.size a ≤ S16384x128.size a)
    (f : FVec F S16384x128 .bf16) :
    (sM).view.readAt (Elt F) (Rect.unit (s := S16384x128) off S4096x128.size inb).toLoadRect f = myRows c f := by
  subst ho
  funext y
  show f _ = f _
  refine congrArg f (idx_ext (n0 := 16384) (n1 := 128) ?_ ?_)
  · show 4096 * c.val + 1 * (y 0).val = 4096 * c.val + (y 0).val
    omega
  · show 0 + 1 * (y 1).val = (y 1).val
    omega

section Tile

variable {Val : EltTy → Type} {n0 n1 s0 s1 o0 o1 : ℕ} {e : EltTy} {sp : CoreSpace} (v : View sig .tc sp (⟨2, ![n0, n1]⟩ : Shape) e)
  (f : v.ty.Contents Val) {off : Fin 2 → ℕ} (ho : off = ![o0, o1])
  (inb : ∀ a : Fin 2, off a + (![s0, s1] : Fin 2 → ℕ) a ≤ (![n0, n1] : Fin 2 → ℕ) a) (w : (⟨2, ![s0, s1]⟩ : Shape).Idx → Val e)

include ho in
/-- Inside the stored tile: the payload at the position there. -/
theorem tile_in (i : (⟨2, ![n0, n1]⟩ : Shape).Idx) (x : (⟨2, ![s0, s1]⟩ : Shape).Idx) (h0 : (i 0).val = o0 + (x 0).val) (h1 : (i 1).val = o1 + (x 1).val) :
    v.read Val ((v.slice (Rect.unit (s := (⟨2, ![n0, n1]⟩ : Shape)) off ![s0, s1] inb)).write Val f w Finset.univ) i = w x :=
  View.read_writes_cons_unit_of_mem v f inb w [] i x ho (two_axes h0 h1)

include ho in
/-- Left or right of it: what was there. -/
theorem tile_out_col (i : (⟨2, ![n0, n1]⟩ : Shape).Idx) (h : (i 1).val < o1 ∨ o1 + s1 ≤ (i 1).val) :
    v.read Val ((v.slice (Rect.unit (s := (⟨2, ![n0, n1]⟩ : Shape)) off ![s0, s1] inb)).write Val f w Finset.univ) i = v.read Val f i :=
  View.read_writes_cons_unit_of_not_mem v f inb w [] i ho (1 : Fin 2) h

include ho in
/-- Above or below it: what was there. -/
theorem tile_out_row (i : (⟨2, ![n0, n1]⟩ : Shape).Idx) (h : (i 0).val < o0 ∨ o0 + s0 ≤ (i 0).val) :
    v.read Val ((v.slice (Rect.unit (s := (⟨2, ![n0, n1]⟩ : Shape)) off ![s0, s1] inb)).write Val f w Finset.univ) i = v.read Val f i :=
  View.read_writes_cons_unit_of_not_mem v f inb w [] i ho (0 : Fin 2) h

end Tile

/-- A block with the chunk `t` replaced by `w`. -/
def setChunk (t : ℕ) (f : FVec F S4096x1024 .bf16) (w : FVec F S4096x128 .bf16) : FVec F S4096x1024 .bf16 :=
  fun i => if (i 1).val / 128 = t then w (inChunk (n := 4096) i) else f i

/-- A stage with the half `t` replaced by `w`. -/
def setHalf (t : ℕ) (f : FVec F S16384x128 .bf16) (w : FVec F S8192x128 .bf16) : FVec F S16384x128 .bf16 :=
  fun i => if (i 0).val / 8192 = t then w (inHalf i) else f i

omit [FloatOps F] in
theorem write_o_chunk {off : Fin 2 → ℕ} (t : Fin 8) (ho : off = ![0, 128 * t.val]) (inb : ∀ a, off a + S4096x128.size a ≤ S4096x1024.size a)
    (f : FVec F S4096x1024 .bf16) (w : FVec F S4096x128 .bf16) :
    ((oM).access (Rect.unit (s := S4096x1024) off S4096x128.size inb)).write (Elt F) f w Finset.univ = setChunk t.val f w := by
  funext i
  unfold setChunk
  by_cases hi : (i 1).val / 128 = t.val
  · rw [if_pos hi]
    refine (congrFun (View.read_whole (Val := Elt F) cc0_stg1_0 _) i).symm.trans (tile_in (Val := Elt F) (n0 := 4096) (n1 := 1024) (s0 := 4096) (s1 := 128) (o0 := 0) (o1 := 128 * t.val) (e := .bf16) (sp := .vmem) (oM).view f ho inb w i (inChunk (n := 4096) i) ?_ ?_)
    · show (i 0).val = 0 + (i 0).val
      omega
    · show (i 1).val = 128 * t.val + (i 1).val % 128
      omega
  · rw [if_neg hi]
    refine (congrFun (View.read_whole (Val := Elt F) cc0_stg1_0 _) i).symm.trans (tile_out_col (Val := Elt F) (n0 := 4096) (n1 := 1024) (s0 := 4096) (s1 := 128) (o0 := 0) (o1 := 128 * t.val) (e := .bf16) (sp := .vmem) (oM).view f ho inb w i ?_)
    omega

omit [FloatOps F] in
theorem write_s_rows {off : Fin 2 → ℕ} (t : Fin 2) (ho : off = ![8192 * t.val, 0]) (inb : ∀ a, off a + S8192x128.size a ≤ S16384x128.size a)
    (f : FVec F S16384x128 .bf16) (w : FVec F S8192x128 .bf16) :
    ((sM).access (Rect.unit (s := S16384x128) off S8192x128.size inb)).write (Elt F) f w Finset.univ = setHalf t.val f w := by
  funext i
  unfold setHalf
  by_cases hi : (i 0).val / 8192 = t.val
  · rw [if_pos hi]
    refine (congrFun (View.read_whole (Val := Elt F) cc0_scratch0 _) i).symm.trans (tile_in (Val := Elt F) (n0 := 16384) (n1 := 128) (s0 := 8192) (s1 := 128) (o0 := 8192 * t.val) (o1 := 0) (e := .bf16) (sp := .vmem) (sM).view f ho inb w i (inHalf i) ?_ ?_)
    · show (i 0).val = 8192 * t.val + (i 0).val % 8192
      omega
    · show (i 1).val = 0 + (i 1).val
      omega
  · rw [if_neg hi]
    refine (congrFun (View.read_whole (Val := Elt F) cc0_scratch0 _) i).symm.trans (tile_out_row (Val := Elt F) (n0 := 16384) (n1 := 128) (s0 := 8192) (s1 := 128) (o0 := 8192 * t.val) (o1 := 0) (e := .bf16) (sp := .vmem) (sM).view f ho inb w i ?_)
    omega

/-! ## The loops through registers -/

abbrev t7B (t6 : Fin k0_t6_loop.trips) := k0_t7_body (F := F) xM (Memref.isWhole_whole _) oM (Memref.isWhole_whole _) gM (Memref.isWhole_whole _)
  sM (Memref.isWhole_whole _) cc0_scratch1 cc0_scratch2 cc0_scratch3 t6
abbrev t9B := k0_t9_body (F := F) xM (Memref.isWhole_whole _) oM (Memref.isWhole_whole _) gM (Memref.isWhole_whole _)
  sM (Memref.isWhole_whole _) cc0_scratch1 cc0_scratch2 cc0_scratch3
abbrev t2B (c : Dev nD) := k0_t2_body (F := F) xM (Memref.isWhole_whole _) oM (Memref.isWhole_whole _) gM (Memref.isWhole_whole _)
  sM (Memref.isWhole_whole _) cc0_scratch1 cc0_scratch2 cc0_scratch3 c
abbrev t1B (c : Dev nD) := k0_t1_body (F := F) xM (Memref.isWhole_whole _) oM (Memref.isWhole_whole _) gM (Memref.isWhole_whole _)
  sM (Memref.isWhole_whole _) cc0_scratch1 cc0_scratch2 cc0_scratch3 c
abbrev t6B := k0_t6_body (F := F) xM (Memref.isWhole_whole _) oM (Memref.isWhole_whole _) gM (Memref.isWhole_whole _)
  sM (Memref.isWhole_whole _) cc0_scratch1 cc0_scratch2 cc0_scratch3
abbrev t8B := k0_t8_body (F := F) xM (Memref.isWhole_whole _) oM (Memref.isWhole_whole _) gM (Memref.isWhole_whole _)
  sM (Memref.isWhole_whole _) cc0_scratch1 cc0_scratch2 cc0_scratch3

/-- The first merge's stages, run in order, are their fold. -/
theorem t7_eq (t6 : Fin k0_t6_loop.trips) (hok : k0_t7_loop.OK) (v : FVec F S8192x128 .bf16) :
    Scf.Loop.for k0_t7_loop hok v (t7B (F := F) t6) = .ret (foldFin k0_t7_loop.trips (k0_pay1 t6) v) :=
  for_ret _ _ _ _ _ fun _ _ => rfl

/-- The last merge's stages, run in order, are their fold. -/
theorem t9_eq (hok : k0_t9_loop.OK) (v : FVec F S8192x128 .bf16) :
    Scf.Loop.for k0_t9_loop hok v (t9B (F := F)) = .ret (foldFin k0_t9_loop.trips k0_pay5 v) :=
  for_ret _ _ _ _ _ fun _ _ => rfl

/-- The local sort's phases, run in order, are their fold. -/
theorem t2_eq (c : Dev nD) (hok : k0_t2_loop.OK) (v : FVec F S4096x128 .bf16) :
    Scf.Loop.for k0_t2_loop hok v (t2B (F := F) c) = .ret (foldFin k0_t2_loop.trips (phase c) v) := by
  refine for_ret _ _ _ _ _ fun k acc => ?_
  unfold t2B k0_t2_body phase
  have h3 := for_ret (k0_t3_loop k) (k0_t3_ok k) acc
    (k0_t3_body (F := F) xM (Memref.isWhole_whole _) oM (Memref.isWhole_whole _) gM (Memref.isWhole_whole _)
      sM (Memref.isWhole_whole _) cc0_scratch1 cc0_scratch2 cc0_scratch3 c k) (k0_pay9 c k) fun _ _ => rfl
  have h4 := for_ret (k0_t4_loop k) (k0_t4_ok k) (foldFin (k0_t3_loop k).trips (k0_pay9 c k) acc)
    (k0_t4_body (F := F) xM (Memref.isWhole_whole _) oM (Memref.isWhole_whole _) gM (Memref.isWhole_whole _)
      sM (Memref.isWhole_whole _) cc0_scratch1 cc0_scratch2 cc0_scratch3 c k) (k0_pay10 c k) fun _ _ => rfl
  rw [h3]
  exact h4

/-! ## The loops through memory -/

/-- The run measures no loop: none of the program is unbounded. -/
abbrev 𝒱₀ : Variants := Variants.none

/-- `G` on the columns before chunk `k`, `f` on the rest. -/
def mixC (k : ℕ) (G f : FVec F S4096x1024 .bf16) : FVec F S4096x1024 .bf16 := fun i => if (i 1).val / 128 < k then G i else f i
/-- `G` on the rows before half `k`, `f` on the rest. -/
def mixH (k : ℕ) (G f : FVec F S16384x128 .bf16) : FVec F S16384x128 .bf16 := fun i => if (i 0).val / 8192 < k then G i else f i

omit [FloatOps F] in
theorem mixC_zero (G f : FVec F S4096x1024 .bf16) : mixC 0 G f = f := funext fun i => if_neg (Nat.not_lt_zero _)
omit [FloatOps F] in
theorem mixH_zero (G f : FVec F S16384x128 .bf16) : mixH 0 G f = f := funext fun i => if_neg (Nat.not_lt_zero _)
omit [FloatOps F] in
theorem mixC_all (G f : FVec F S4096x1024 .bf16) : mixC 8 G f = G :=
  funext fun i => if_pos (by have := col_lt (n0 := 4096) (n1 := 1024) i; omega)
omit [FloatOps F] in
theorem mixH_all (G f : FVec F S16384x128 .bf16) : mixH 2 G f = G :=
  funext fun i => if_pos (by have := row_lt (n0 := 16384) (n1 := 128) i; omega)

omit [FloatOps F] in
theorem mixC_step (k : ℕ) (G f : FVec F S4096x1024 .bf16) (w : FVec F S4096x128 .bf16)
    (h : ∀ i : S4096x1024.Idx, (i 1).val / 128 = k → w (inChunk (n := 4096) i) = G i) : setChunk k (mixC k G f) w = mixC (k + 1) G f := by
  funext i
  unfold setChunk mixC
  by_cases hi : (i 1).val / 128 = k
  · rw [if_pos hi, if_pos (by omega), h i hi]
  · rw [if_neg hi]
    by_cases hl : (i 1).val / 128 < k
    · rw [if_pos hl, if_pos (by omega)]
    · rw [if_neg hl, if_neg (by omega)]

omit [FloatOps F] in
theorem mixH_step (k : ℕ) (G f : FVec F S16384x128 .bf16) (w : FVec F S8192x128 .bf16)
    (h : ∀ i : S16384x128.Idx, (i 0).val / 8192 = k → w (inHalf i) = G i) : setHalf k (mixH k G f) w = mixH (k + 1) G f := by
  funext i
  unfold setHalf mixH
  by_cases hi : (i 0).val / 8192 = k
  · rw [if_pos hi, if_pos (by omega), h i hi]
  · rw [if_neg hi]
    by_cases hl : (i 0).val / 8192 < k
    · rw [if_pos hl, if_pos (by omega)]
    · rw [if_neg hl, if_neg (by omega)]

omit [FloatOps F] in
theorem mixH_half (k : Fin 2) (G f : FVec F S16384x128 .bf16) : rowHalf (mixH k.val G f) k = rowHalf f k := by
  funext y
  unfold rowHalf mixH
  refine if_neg ?_
  have := row_lt (n0 := 8192) (n1 := 128) y
  show ¬ (8192 * k.val + (y 0).val) / 8192 < k.val
  omega

/-- The local sort of the block, chunk by chunk. -/
theorem wp_t1 (c : Dev nD) (x f : FVec F S4096x1024 .bf16) (hok : k0_t1_loop.OK) {β : Type} {Q : β → sProp 𝕄}
    {kk : Unit → Prog (TpuEff nD τ sig (Elt F) Λ₀ .tc) β} :
    iprop(xPts c x ∗ oPts c f)
      ⊢ iprop(((xPts c x ∗ oPts c (locSort c x)) -∗ wp frame (wpE (defs₀ (F := F)) 𝒱₀ (c : Thread nD τ) none) Set.univ (kk ⟨⟩) Q)
          -∗ wp frame (wpE (defs₀ (F := F)) 𝒱₀ (c : Thread nD τ) none) Set.univ
              (Scf.Loop.for k0_t1_loop hok ⟨⟩ (t1B (F := F) c) >>= kk) Q) := by
  iintro ⟨Hx, Ho⟩ Hk
  iapply (Scf.wp_for_bind frame (wpE (defs₀ (F := F)) 𝒱₀ (c : Thread nD τ) none) Set.univ k0_t1_loop.lb k0_t1_loop.ub k0_t1_loop.st hok ⟨⟩
    (t1B (F := F) c) (fun k _ => iprop(xPts c x ∗ oPts c (mixC k (locSort c x) f))) ?_) $$ [Hx Ho]
  · intro k acc
    have hk : k.val < 8 := trips1 ▸ k.isLt
    unfold t1B k0_t1_body
    simp only [Prog.lift, Prog.bind_op, Prog.bind_ret, Prog.pure_eq_ret]
    unfold xPts oPts
    iintro ⟨Hx, Ho⟩
    iapply (wp_load 𝒱₀ (c : Thread nD τ) none Set.univ (m := xM) (Finset.subset_univ _)) $$ Hx; iintro Hx
    rw [read_x_chunk ⟨k.val, hk⟩ (k0_off1_eq k) _ x]
    rw [t2_eq]
    simp only [Prog.bind_ret]
    iapply (wp_load 𝒱₀ (c : Thread nD τ) none Set.univ (m := oM) (Finset.subset_univ _)) $$ Ho; iintro Ho
    iapply (wp_store 𝒱₀ (c : Thread nD τ) none Set.univ (m := oM) (r := Rect.unit (s := S4096x1024) (k0_off1 k) S4096x128.size (k0_off1_inb k)) (Mk := Finset.univ) (Finset.subset_univ _)) $$ Ho; iintro Ho
    rw [write_o_chunk ⟨k.val, hk⟩ (k0_off1_eq k) _ _ _, mixC_step k.val (locSort c x) f]
    · rw [wp_ret]; imodintro
      isplitl [Hx] <;> iassumption
    · intro i hi
      unfold locSort sortCh
      have : chunkOf (n := 4096) i = ⟨k.val, hk⟩ := Fin.ext hi
      rw [this]
  · rw [mixC_zero]
    isplitl [Hx] <;> iassumption
  iintro %acc ⟨Hx, Ho⟩
  iapply Hk
  isplitl [Hx]; · iexact Hx
  have h8 : Scf.trips k0_t1_loop.lb k0_t1_loop.ub k0_t1_loop.st = 8 := trips1
  rw [h8, mixC_all]
  iexact Ho

/-- The first merges of the two halves of a chunk. -/
theorem wp_t6 (c : Dev nD) (w : FVec F S16384x128 .bf16) (hok : k0_t6_loop.OK) {β : Type} {Q : β → sProp 𝕄}
    {kk : Unit → Prog (TpuEff nD τ sig (Elt F) Λ₀ .tc) β} :
    sPts c w
      ⊢ iprop((sPts c (merge1 w) -∗ wp frame (wpE (defs₀ (F := F)) 𝒱₀ (c : Thread nD τ) none) Set.univ (kk ⟨⟩) Q)
          -∗ wp frame (wpE (defs₀ (F := F)) 𝒱₀ (c : Thread nD τ) none) Set.univ
              (Scf.Loop.for k0_t6_loop hok ⟨⟩ (t6B (F := F)) >>= kk) Q) := by
  iintro Hs Hk
  iapply (Scf.wp_for_bind frame (wpE (defs₀ (F := F)) 𝒱₀ (c : Thread nD τ) none) Set.univ k0_t6_loop.lb k0_t6_loop.ub k0_t6_loop.st hok ⟨⟩
    (t6B (F := F)) (fun k _ => sPts c (mixH k (merge1 w) w)) ?_) $$ [Hs]
  · intro k acc
    have hk : k.val < 2 := trips6 ▸ k.isLt
    unfold t6B k0_t6_body
    simp only [Prog.lift, Prog.bind_op, Prog.bind_ret, Prog.pure_eq_ret]
    unfold sPts
    iintro Hs
    iapply (wp_load 𝒱₀ (c : Thread nD τ) none Set.univ (m := sM) (Finset.subset_univ _)) $$ Hs; iintro Hs
    rw [read_s_rows ⟨k.val, hk⟩ (k0_off5_eq k) _ _, mixH_half ⟨k.val, hk⟩]
    rw [t7_eq]
    simp only [Prog.bind_ret]
    iapply (wp_load 𝒱₀ (c : Thread nD τ) none Set.univ (m := sM) (Finset.subset_univ _)) $$ Hs; iintro Hs
    iapply (wp_store 𝒱₀ (c : Thread nD τ) none Set.univ (m := sM)
      (r := Rect.unit (s := S16384x128) (k0_off5 k) S8192x128.size (k0_off5_inb k)) (Mk := Finset.univ) (Finset.subset_univ _)) $$ Hs; iintro Hs
    rw [write_s_rows ⟨k.val, hk⟩ (k0_off5_eq k) _ _ _, mixH_step k.val (merge1 w) w]
    · rw [wp_ret]; imodintro
      iexact Hs
    · intro i hi
      have hh : halfOf i = ⟨k.val, hk⟩ := Fin.ext hi
      unfold merge1 half1
      rw [hh]; rfl
  · rw [mixH_zero]
    iexact Hs
  iintro %acc Hs
  iapply Hk
  have h2 : Scf.trips k0_t6_loop.lb k0_t6_loop.ub k0_t6_loop.st = 2 := trips6
  rw [h2, mixH_all]
  iexact Hs

/-- The last merges of the two halves of a chunk. -/
theorem wp_t8 (c : Dev nD) (w : FVec F S16384x128 .bf16) (hok : k0_t8_loop.OK) {β : Type} {Q : β → sProp 𝕄}
    {kk : Unit → Prog (TpuEff nD τ sig (Elt F) Λ₀ .tc) β} :
    sPts c w
      ⊢ iprop((sPts c (merge2 w) -∗ wp frame (wpE (defs₀ (F := F)) 𝒱₀ (c : Thread nD τ) none) Set.univ (kk ⟨⟩) Q)
          -∗ wp frame (wpE (defs₀ (F := F)) 𝒱₀ (c : Thread nD τ) none) Set.univ
              (Scf.Loop.for k0_t8_loop hok ⟨⟩ (t8B (F := F)) >>= kk) Q) := by
  iintro Hs Hk
  iapply (Scf.wp_for_bind frame (wpE (defs₀ (F := F)) 𝒱₀ (c : Thread nD τ) none) Set.univ k0_t8_loop.lb k0_t8_loop.ub k0_t8_loop.st hok ⟨⟩
    (t8B (F := F)) (fun k _ => sPts c (mixH k (merge2 w) w)) ?_) $$ [Hs]
  · intro k acc
    have hk : k.val < 2 := trips8 ▸ k.isLt
    unfold t8B k0_t8_body
    simp only [Prog.lift, Prog.bind_op, Prog.bind_ret, Prog.pure_eq_ret]
    unfold sPts
    iintro Hs
    iapply (wp_load 𝒱₀ (c : Thread nD τ) none Set.univ (m := sM) (Finset.subset_univ _)) $$ Hs; iintro Hs
    rw [read_s_rows ⟨k.val, hk⟩ (k0_off6_eq k) _ _, mixH_half ⟨k.val, hk⟩]
    rw [t9_eq]
    simp only [Prog.bind_ret]
    iapply (wp_load 𝒱₀ (c : Thread nD τ) none Set.univ (m := sM) (Finset.subset_univ _)) $$ Hs; iintro Hs
    iapply (wp_store 𝒱₀ (c : Thread nD τ) none Set.univ (m := sM)
      (r := Rect.unit (s := S16384x128) (k0_off6 k) S8192x128.size (k0_off6_inb k)) (Mk := Finset.univ) (Finset.subset_univ _)) $$ Hs; iintro Hs
    rw [write_s_rows ⟨k.val, hk⟩ (k0_off6_eq k) _ _ _, mixH_step k.val (merge2 w) w]
    · rw [wp_ret]; imodintro
      iexact Hs
    · intro i hi
      have hh : halfOf i = ⟨k.val, hk⟩ := Fin.ext hi
      unfold merge2 half2
      rw [hh]
  · rw [mixH_zero]
    iexact Hs
  iintro %acc Hs
  iapply Hk
  have h2 : Scf.trips k0_t8_loop.lb k0_t8_loop.ub k0_t8_loop.st = 2 := trips8
  rw [h2, mixH_all]
  iexact Hs

abbrev t5B (c : Dev nD) := k0_t5_body (F := F) xM (Memref.isWhole_whole _) oM (Memref.isWhole_whole _) gM (Memref.isWhole_whole _)
  sM (Memref.isWhole_whole _) cc0_scratch1 cc0_scratch2 cc0_scratch3 c

/-- The semaphore of the local copies. -/
abbrev copyS : DmaSem sig := cc0_scratch1.sem

omit [FloatOps F] in
/-- A column chunk of the gathered array, as a copy reads it. -/
theorem read_g_chunk {off : Fin 2 → ℕ} (t : Fin 8) (ho : off = ![0, 128 * t.val]) (inb : ∀ a, off a + S16384x128.size a ≤ S16384x1024.size a)
    (g : FVec F S16384x1024 .bf16) :
    ((gM).slice (Rect.unit (s := S16384x1024) off S16384x128.size inb) (fun _ => rfl)).view.read (Elt F) g = colChunk (n := 16384) g t := by
  subst ho
  funext y
  show g _ = g _
  refine congrArg g (idx_ext (n0 := 16384) (n1 := 1024) ?_ ?_)
  · show 0 + 1 * (y 0).val = (y 0).val
    omega
  · show 128 * t.val + 1 * (y 1).val = 128 * t.val + (y 1).val
    omega

omit [FloatOps F] in
/-- The two halves written one after the other with the exchanged rows. -/
theorem set_cross (s : FVec F S16384x128 .bf16) (w0 w1 : FVec F S8192x128 .bf16) :
    setHalf 1 (setHalf 0 s w0) w1 = fun i => if (i 0).val < 8192 then w0 (inHalf i) else w1 (inHalf i) := by
  funext i
  have := row_lt (n0 := 16384) (n1 := 128) i
  unfold setHalf
  by_cases hi : (i 0).val < 8192
  · rw [if_pos hi, if_neg (by omega), if_pos (by omega)]
  · rw [if_neg hi, if_pos (by omega)]

/-- The merge of the gathered array, chunk by chunk, a core that owes nothing. -/
theorem wp_t5 (c : Dev nD) (g : FVec F S16384x1024 .bf16) (f : FVec F S4096x1024 .bf16) (W : Waits sig Unit) (hok : k0_t5_loop.OK)
    {β : Type} {Q : β → sProp 𝕄} {kk : Unit → Prog (TpuEff nD τ sig (Elt F) Λ₀ .tc) β} :
    iprop(gPts c g ∗ (∃ s, sPts c s) ∗ oPts c f ∗ semVal ((c : Thread nD τ), SemLoc.dma copyS) 0 ∗ owes (c : Thread nD τ) 0 W)
      ⊢ iprop(((gPts c g ∗ (∃ s, sPts c s) ∗ oPts c (outOf c g) ∗ semVal ((c : Thread nD τ), SemLoc.dma copyS) 0 ∗ (∃ W', owes (c : Thread nD τ) 0 W'))
            -∗ wp frame (wpE (defs₀ (F := F)) 𝒱₀ (c : Thread nD τ) none) Set.univ (kk ⟨⟩) Q)
          -∗ wp frame (wpE (defs₀ (F := F)) 𝒱₀ (c : Thread nD τ) none) Set.univ
              (Scf.Loop.for k0_t5_loop hok ⟨⟩ (t5B (F := F) c) >>= kk) Q) := by
  iintro ⟨Hg, Hs, Ho, Hv, HO⟩ Hk
  iapply (Scf.wp_for_bind frame (wpE (defs₀ (F := F)) 𝒱₀ (c : Thread nD τ) none) Set.univ k0_t5_loop.lb k0_t5_loop.ub k0_t5_loop.st hok ⟨⟩
    (t5B (F := F) c) (fun k _ => iprop(gPts c g ∗ (∃ s, sPts c s) ∗ oPts c (mixC k (outOf c g) f) ∗ semVal ((c : Thread nD τ), SemLoc.dma copyS) 0
      ∗ (∃ W', owes (c : Thread nD τ) 0 W'))) ?_) $$ [Hg Hs Ho Hv HO]
  · intro k acc
    have hk : k.val < 8 := trips5 ▸ k.isLt
    unfold t5B k0_t5_body
    simp only [Prog.lift, Prog.bind_op, Prog.bind_ret, Prog.pure_eq_ret]
    iintro ⟨Hg, ⟨%s, Hs⟩, Ho, Hv, ⟨%W', HO⟩⟩
    unfold gPts sPts
    -- the copy of the gathered chunk into the stage
    ihave Hg' := ((pointsTo_split_subset (ℓ := (c : Thread nD τ).loc main_v1_1) (I := ((gM).slice (Rect.unit (s := S16384x1024) (k0_off4 k) S16384x128.size (k0_off4_inb k)) (fun _ => rfl)).view.set)
      (Finset.subset_univ _)).1) $$ Hg
    icases Hg' with ⟨Hgs, Hgr⟩
    iapply (Transfers.wp_dmaLocal countersEmb 𝒱₀ (c : Thread nD τ) none () _ rfl (View.dmaCredit_pos _ (by decide)) (Finset.subset_univ _)) $$ [Hgs Hs Hv]
    · isplitl [Hgs]; · iexact Hgs
      isplitl [Hs]; · iexact Hs
      iexact Hv
    iintro HF
    iapply (Transfers.wp_waitLocalO countersEmb 𝒱₀ (c : Thread nD τ) none () rfl) $$ [HF HO]
    · isplitl [HF]; · iexact HF
      isplitl [HO]; · iexact HO
      rw [MayWait_zero]; iempintro
    iintro ⟨⟨Hs, Hgs⟩, Hv, HO⟩
    ihave Hg := ((pointsTo_split_subset (ℓ := (c : Thread nD τ).loc main_v1_1) (I := ((gM).slice (Rect.unit (s := S16384x1024) (k0_off4 k) S16384x128.size (k0_off4_inb k)) (fun _ => rfl)).view.set)
      (Finset.subset_univ _)).2) $$ [Hgs Hgr]
    · isplitl [Hgs] <;> iassumption
    have hw : (sM).view.write (Elt F) s ((ReadAs.same (Val := Elt F)).apply
        (((gM).slice (Rect.unit (s := S16384x1024) (k0_off4 k) S16384x128.size (k0_off4_inb k)) (fun _ => rfl)).view.read (Elt F) g)) Finset.univ
        = colChunk (n := 16384) g ⟨k.val, hk⟩ :=
      (View.write_whole_univ (Val := Elt F) cc0_scratch0 s _).trans (read_g_chunk ⟨k.val, hk⟩ (k0_off4_eq k) _ g)
    rw [hw]
    ihave Hs := (Entails.of_eq (sPts_eq c (colChunk (n := 16384) g ⟨k.val, hk⟩)).symm) $$ Hs
    iapply (wp_t6 c (colChunk (n := 16384) g ⟨k.val, hk⟩)) $$ Hs
    iintro Hs
    ihave Hs := (Entails.of_eq (sPts_eq c _)) $$ Hs
    iapply (wp_load 𝒱₀ (c : Thread nD τ) none Set.univ (m := sM) (Finset.subset_univ _)) $$ Hs; iintro Hs
    rw [read_s_rows (off := ![0, 0]) 0 rfl _ _]
    iapply (wp_load 𝒱₀ (c : Thread nD τ) none Set.univ (m := sM) (Finset.subset_univ _)) $$ Hs; iintro Hs
    rw [read_s_rows (off := ![8192, 0]) 1 rfl _ _]
    iapply (wp_load 𝒱₀ (c : Thread nD τ) none Set.univ (m := sM) (Finset.subset_univ _)) $$ Hs; iintro Hs
    iapply (wp_store 𝒱₀ (c : Thread nD τ) none Set.univ (m := sM)
      (r := Rect.unit (s := S16384x128) ![0, 0] S8192x128.size inb_S16384x128_S8192x128_0_0) (Mk := Finset.univ) (Finset.subset_univ _)) $$ Hs; iintro Hs
    iapply (wp_load 𝒱₀ (c : Thread nD τ) none Set.univ (m := sM) (Finset.subset_univ _)) $$ Hs; iintro Hs
    iapply (wp_store 𝒱₀ (c : Thread nD τ) none Set.univ (m := sM)
      (r := Rect.unit (s := S16384x128) ![8192, 0] S8192x128.size inb_S16384x128_S8192x128_8192_0) (Mk := Finset.univ) (Finset.subset_univ _)) $$ Hs; iintro Hs
    rw [write_s_rows (off := ![0, 0]) 0 rfl _ _ _, write_s_rows (off := ![8192, 0]) 1 rfl _ _ _]
    have hc : setHalf ((1 : Fin 2) : ℕ) (setHalf ((0 : Fin 2) : ℕ) (merge1 (colChunk (n := 16384) g ⟨k.val, hk⟩))
          (k0_pay3 (rowHalf (merge1 (colChunk (n := 16384) g ⟨k.val, hk⟩)) 0) (rowHalf (merge1 (colChunk (n := 16384) g ⟨k.val, hk⟩)) 1)))
          (k0_pay4 (rowHalf (merge1 (colChunk (n := 16384) g ⟨k.val, hk⟩)) 0) (rowHalf (merge1 (colChunk (n := 16384) g ⟨k.val, hk⟩)) 1))
        = cross (merge1 (colChunk (n := 16384) g ⟨k.val, hk⟩)) := set_cross _ _ _
    rw [hc]
    ihave Hs := (Entails.of_eq (sPts_eq c _).symm) $$ Hs
    iapply (wp_t8 c (cross (merge1 (colChunk (n := 16384) g ⟨k.val, hk⟩)))) $$ Hs
    iintro Hs
    ihave Hs := (Entails.of_eq (sPts_eq c _)) $$ Hs
    unfold oPts
    iapply (wp_load 𝒱₀ (c : Thread nD τ) none Set.univ (m := sM) (Finset.subset_univ _)) $$ Hs; iintro Hs
    rw [read_s_mine c (k0_off7_eq c) _ _]
    iapply (wp_load 𝒱₀ (c : Thread nD τ) none Set.univ (m := oM) (Finset.subset_univ _)) $$ Ho; iintro Ho
    iapply (wp_store 𝒱₀ (c : Thread nD τ) none Set.univ (m := oM)
      (r := Rect.unit (s := S4096x1024) (k0_off8 k) S4096x128.size (k0_off8_inb k)) (Mk := Finset.univ) (Finset.subset_univ _)) $$ Ho; iintro Ho
    rw [write_o_chunk ⟨k.val, hk⟩ (k0_off8_eq k) _ _ _, mixC_step k.val (outOf c g) f]
    · rw [wp_ret]; imodintro
      isplitl [Hg]; · iexact Hg
      isplitl [Hs]; · iexists _; iexact Hs
      isplitl [Ho]; · iexact Ho
      isplitl [Hv]; · iexact Hv
      iexists _; iexact HO
    · intro i hi
      have : chunkOf (n := 4096) i = ⟨k.val, hk⟩ := Fin.ext hi
      unfold outOf mergeCh
      rw [this]
  · rw [mixC_zero]
    isplitl [Hg]; · iexact Hg
    isplitl [Hs]; · iexact Hs
    isplitl [Ho]; · iexact Ho
    isplitl [Hv]; · iexact Hv
    iexists W; iexact HO
  iintro %acc ⟨Hg, Hs, Ho, Hv, HO⟩
  iapply Hk
  isplitl [Hg]; · iexact Hg
  isplitl [Hs]; · iexact Hs
  isplitl [Ho]
  · have h8 : Scf.trips k0_t5_loop.lb k0_t5_loop.ub k0_t5_loop.st = 8 := trips5
    rw [h8, mixC_all]
    iexact Ho
  isplitl [Hv]; · iexact Hv
  iexact HO

end Cert.SortProof

end
-- ==== Proof.Sched.lean ====
/-
# `Sched`: the ring's cells, what each hands over, and the levels

Seven cells a device. Its BARRIER cell is paid one unit by the device before it (duty `false`, nothing handed) and one by
the device after it (duty `true`, which hands the three row blocks of that device's gathered array the transfers will
land in). Its SEND cell `h` is paid by its own transfer `h` and hands the source rows back. Its RECEIVE cell `h` is paid by
the transfer `h` of the device before it and hands the rows landed, at the gathered contents. Transfer `h` of device `c`
moves the row block of device `back h c`, which is `c` itself at `h = 0` and the block received last at `h = 1, 2`.

Levels: staging, local copies and send cells at 0, barrier cells at 1, receive cell `h` at `2 + h`: each wait of the body is
below everything the device still owes there.
-/
module

public import proofs.«01_k».proof.Proof.Loops

@[expose] public section

noncomputable section

namespace Cert.SortProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The pipeline library's resource, and the ring's. -/
abbrev EP : Emb (UR sig nD τ) (MT nD τ sig Unit (Elt F) ℕ UU ℕ) := embL
/-- The ring's component: the left half of the second factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
omit [FloatOps F] in
instance ER_landsIn : (ER : Emb UB 𝕄).LandsIn (upEmb : UEmb _ 𝕄) := by unfold ER; infer_instance

/-! ## The ring -/

/-- The device after `c`, and the one before. -/
def nxt (c : Dev nD) : Dev nD := ⟨(c.val + 1) % 4, Nat.mod_lt _ (by decide)⟩
def prv (c : Dev nD) : Dev nD := ⟨(c.val + 3) % 4, Nat.mod_lt _ (by decide)⟩
/-- The device `h` places before `c`: whose rows `c` sends in transfer `h`. -/
def back (h : Fin 3) (c : Dev nD) : Dev nD := ⟨((c.val + 4) - h.val) % 4, Nat.mod_lt _ (by decide)⟩

theorem prv_nxt (c : Dev nD) : prv (nxt c) = c := by revert c; decide
theorem nxt_prv (c : Dev nD) : nxt (prv c) = c := by revert c; decide

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = nxt c := Fin.ext (k0_dev4_eq c)
theorem dev5_eq (c : Dev nD) : (⟨k0_dev5 c, k0_dev5_lt c⟩ : Dev nD) = nxt c := Fin.ext (k0_dev5_eq c)

def ring : Dev nD ≃ Dev nD := ⟨nxt, prv, prv_nxt, nxt_prv⟩

/-! ## The cells -/

/-- The runtime's barrier semaphore, and the semaphores of transfer `h`. -/
abbrev barS : Sem sig := (SemArray.scalar (sig.barrier 0 rfl) : Sems sig S_).sem
abbrev sendQ : Fin 3 → DmaSem sig := fun
  | 0 => ((cc0_scratch2.slice (Rect.unit (s := S3) ![0] S1.size inb_S3_S1_0)).squeeze S_ squeezes_S1_S_).sem
  | 1 => ((cc0_scratch2.slice (Rect.unit (s := S3) ![1] S1.size inb_S3_S1_1)).squeeze S_ squeezes_S1_S_).sem
  | 2 => ((cc0_scratch2.slice (Rect.unit (s := S3) ![2] S1.size inb_S3_S1_2)).squeeze S_ squeezes_S1_S_).sem
abbrev recvQ : Fin 3 → DmaSem sig := fun
  | 0 => ((cc0_scratch3.slice (Rect.unit (s := S3) ![0] S1.size inb_S3_S1_0)).squeeze S_ squeezes_S1_S_).sem
  | 1 => ((cc0_scratch3.slice (Rect.unit (s := S3) ![1] S1.size inb_S3_S1_1)).squeeze S_ squeezes_S1_S_).sem
  | 2 => ((cc0_scratch3.slice (Rect.unit (s := S3) ![2] S1.size inb_S3_S1_2)).squeeze S_ squeezes_S1_S_).sem

abbrev barCell (c : Dev nD) : GSem nD τ sig := ((c : Thread nD τ), .reg barS)
abbrev sendCell (h : Fin 3) (c : Dev nD) : GSem nD τ sig := ((c : Thread nD τ), .dma (sendQ h))
abbrev recvCell (h : Fin 3) (c : Dev nD) : GSem nD τ sig := ((c : Thread nD τ), .dma (recvQ h))
abbrev copyCell (c : Dev nD) : GSem nD τ sig := ((c : Thread nD τ), .dma copyS)

/-- The ring's seven semaphores: barrier, send, receive. -/
abbrev csem : Fin 7 → SemLoc sig := fun
  | 0 => .reg barS | 1 => .dma (sendQ 0) | 2 => .dma (sendQ 1) | 3 => .dma (sendQ 2)
  | 4 => .dma (recvQ 0) | 5 => .dma (recvQ 1) | 6 => .dma (recvQ 2)
abbrev kcell (ck : Dev nD × Fin 7) : GSem nD τ sig := ((ck.1 : Thread nD τ), csem ck.2)
/-- The kernel's own (scoped) semaphores: the local copies', then the transfers'. -/
abbrev osem : Fin 7 → SemLoc sig := fun
  | 0 => .dma copyS | 1 => .dma (sendQ 0) | 2 => .dma (sendQ 1) | 3 => .dma (sendQ 2)
  | 4 => .dma (recvQ 0) | 5 => .dma (recvQ 1) | 6 => .dma (recvQ 2)

/-- Where the send and receive cell of transfer `h` stand in that list. -/
abbrev sendK : Fin 3 → Fin 7 := fun | 0 => 1 | 1 => 2 | 2 => 3
abbrev recvK : Fin 3 → Fin 7 := fun | 0 => 4 | 1 => 5 | 2 => 6
theorem kcell_send (c : Dev nD) (h : Fin 3) : kcell (c, sendK h) = sendCell h c := by
  match h with | 0 => rfl | 1 => rfl | 2 => rfl
theorem kcell_recv (c : Dev nD) (h : Fin 3) : kcell (c, recvK h) = recvCell h c := by
  match h with | 0 => rfl | 1 => rfl | 2 => rfl

/-- Which transfer a semaphore belongs to: `(false, h)` its send semaphore, `(true, h)` its receive semaphore. -/
def payOf (s : SemLoc sig) : Option (Bool × Fin 3) :=
  if s = .dma (sendQ 0) then some (false, 0) else if s = .dma (sendQ 1) then some (false, 1) else if s = .dma (sendQ 2) then some (false, 2)
  else if s = .dma (recvQ 0) then some (true, 0) else if s = .dma (recvQ 1) then some (true, 1) else if s = .dma (recvQ 2) then some (true, 2)
  else none

theorem payOf_send (h : Fin 3) : payOf (.dma (sendQ h)) = some (false, h) := by revert h; decide
theorem payOf_recv (h : Fin 3) : payOf (.dma (recvQ h)) = some (true, h) := by revert h; decide
theorem send_ne_bar (h : Fin 3) : (SemLoc.dma (sendQ h) : SemLoc sig) ≠ .reg barS := fun h => by cases h
theorem recv_ne_bar (h : Fin 3) : (SemLoc.dma (recvQ h) : SemLoc sig) ≠ .reg barS := fun h => by cases h

/-! ## Row blocks of the gathered array -/

theorem rows_inb (j : Dev nD) : ∀ a, (![4096 * j.val, 0] : Fin 2 → ℕ) a + S4096x1024.size a ≤ S16384x1024.size a :=
  two_axes (by have : j.val < 4 := j.isLt; show 4096 * j.val + 4096 ≤ 16384; omega) (by show 0 + 1024 ≤ 1024; omega)

/-- The view of the row block of device `j`. -/
abbrev gV (j : Dev nD) : Memref sig .tc .hbm S4096x1024 .bf16 :=
  (gM).slice (Rect.unit (s := S16384x1024) ![4096 * j.val, 0] S4096x1024.size (rows_inb j)) (fun _ => rfl)

/-- Its elements. -/
def slS (j : Dev nD) : Finset S16384x1024.Idx := (gV j).view.set

theorem mem_slS (j : Dev nD) (i : S16384x1024.Idx) : i ∈ slS j ↔ (i 0).val / 4096 = j.val := by
  have h : slS j = (Rect.unit (s := S16384x1024) ![4096 * j.val, 0] S4096x1024.size (rows_inb j)).set := View.set_slice_whole _ _
  rw [h, Rect.mem_set_unit]
  have hc := col_lt (n0 := 16384) (n1 := 1024) i
  constructor
  · intro hm
    have h0 : 4096 * j.val ≤ (i 0).val ∧ (i 0).val < 4096 * j.val + 4096 := hm 0
    omega
  · intro hi
    exact two_axes (by show 4096 * j.val ≤ (i 0).val ∧ (i 0).val < 4096 * j.val + 4096; omega)
      (by show 0 ≤ (i 1).val ∧ (i 1).val < 0 + 1024; omega)

/-- Device `c`'s copy of the row block of device `j`, at contents `f`. -/
def gSl (c j : Dev nD) (f : FVec F S16384x1024 .bf16) : sProp 𝕄 := ((c : Thread nD τ).loc main_v1_1) ↦[slS j]{fullShare} f

omit [FloatOps F] in
instance gSl_storable (c j : Dev nD) (f : FVec F S16384x1024 .bf16) : BI.Storable (upEmb : UEmb _ 𝕄) (gSl (F := F) c j f) := by
  unfold gSl; infer_instance

/-- The bytes of a transfer, as its semaphores count them. -/
abbrev N : ℕ := (gV 0).view.dmaCredit
theorem N_pos : 0 < N := View.dmaCredit_pos _ (by decide)

/-! ## The schedule -/

section Schedule

variable (GA : FVec F S16384x1024 .bf16)

/-- What duty `true` of `c`'s barrier cell hands over: the next device's row blocks that `c`'s transfers land in. -/
def barPay (c : Dev nD) : sProp 𝕄 :=
  iprop((∃ f, gSl (nxt c) (back 0 c) f) ∗ (∃ f, gSl (nxt c) (back 1 c) f) ∗ (∃ f, gSl (nxt c) (back 2 c) f))
/-- What a transfer's send cell hands back and its receive cell hands over. -/
def sendPay (h : Fin 3) (c : Dev nD) : sProp 𝕄 := gSl c (back h c) GA
def recvPay (h : Fin 3) (c : Dev nD) : sProp 𝕄 := gSl c (back h (prv c)) GA

/-- The payload of a semaphore's round. -/
def payload (s : SemLoc sig) (c : Dev nD) (d : Bool) : sProp 𝕄 :=
  if s = .reg barS then (if d then barPay c else iprop(emp))
  else match payOf s with
    | some (false, h) => sendPay GA h c
    | some (true, h) => recvPay GA h c
    | none => iprop(emp)

/-- One round, round 0. -/
def ringRd : Rounds.Schedule (GSem nD τ sig) Bool 𝕄 where
  duties g r := if r = 0 ∧ g.1.2 = .tc then (if g.2 = .reg barS then Finset.univ else if (payOf g.2).isSome then {false} else ∅) else ∅
  unitless _ := False
  amount g _ _ := if g.2 = .reg barS then 1 else N
  payload g _ d := payload GA g.2 g.1.1 d
  amount_pos g _ _ _ := by
    by_cases h : g.2 = .reg barS
    · rw [if_pos h]; exact Nat.one_pos
    · rw [if_neg h]; exact N_pos

omit [FloatOps F] in
instance ringRd_payload_storable (g : GSem nD τ sig) (r : ℕ) (d : Bool) :
    BI.Storable (upEmb : UEmb _ 𝕄) ((ringRd (F := F) GA).payload g r d) := by
  show BI.Storable upEmb (payload GA g.2 g.1.1 d)
  unfold payload barPay sendPay recvPay
  (repeat' split) <;> infer_instance

variable (c : Dev nD) (h : Fin 3)

omit [FloatOps F] in
theorem duties_bar : (ringRd (F := F) GA).duties (barCell c) 0 = Finset.univ := by
  dsimp only [ringRd]; rw [if_pos ⟨rfl, rfl⟩, if_pos rfl]
omit [FloatOps F] in
theorem duties_send : (ringRd (F := F) GA).duties (sendCell h c) 0 = {false} := by
  dsimp only [ringRd]; rw [if_pos ⟨rfl, rfl⟩, if_neg (send_ne_bar h), payOf_send]; rfl
omit [FloatOps F] in
theorem duties_recv : (ringRd (F := F) GA).duties (recvCell h c) 0 = {false} := by
  dsimp only [ringRd]; rw [if_pos ⟨rfl, rfl⟩, if_neg (recv_ne_bar h), payOf_recv]; rfl
omit [FloatOps F] in
theorem duties_later (g : GSem nD τ sig) : ∀ r, 1 ≤ r → (ringRd (F := F) GA).duties g r = ∅ :=
  fun r hr => by dsimp only [ringRd]; rw [if_neg fun h => by omega]

omit [FloatOps F] in
theorem amount_bar (d : Bool) : (ringRd (F := F) GA).amount (barCell c) 0 d = 1 := by dsimp only [ringRd]; exact if_pos rfl
omit [FloatOps F] in
theorem amount_send (d : Bool) : (ringRd (F := F) GA).amount (sendCell h c) 0 d = N := by dsimp only [ringRd]; exact if_neg (send_ne_bar h)
omit [FloatOps F] in
theorem amount_recv (d : Bool) : (ringRd (F := F) GA).amount (recvCell h c) 0 d = N := by dsimp only [ringRd]; exact if_neg (recv_ne_bar h)

omit [FloatOps F] in
theorem expect_bar : (ringRd (F := F) GA).expect (barCell c) 0 = 2 := by
  unfold Schedule.expect Schedule.amountOf
  rw [duties_bar, Finset.sum_congr rfl fun d _ => amount_bar GA c d, Finset.sum_const, Finset.card_univ, Fintype.card_bool, smul_eq_mul]
omit [FloatOps F] in
theorem expect_send : (ringRd (F := F) GA).expect (sendCell h c) 0 = N := by
  unfold Schedule.expect Schedule.amountOf; rw [duties_send, Finset.sum_singleton, amount_send]
omit [FloatOps F] in
theorem expect_recv : (ringRd (F := F) GA).expect (recvCell h c) 0 = N := by
  unfold Schedule.expect Schedule.amountOf; rw [duties_recv, Finset.sum_singleton, amount_recv]

omit [FloatOps F] in
theorem payload_bar_true : (ringRd (F := F) GA).payload (barCell c) 0 true = barPay c := by
  dsimp only [ringRd]; unfold payload; rw [if_pos rfl, if_pos rfl]
omit [FloatOps F] in
theorem payload_bar_false : (ringRd (F := F) GA).payload (barCell c) 0 false = iprop(emp) := by
  dsimp only [ringRd]; unfold payload; rw [if_pos rfl]; exact if_neg Bool.false_ne_true
omit [FloatOps F] in
theorem payload_send (d : Bool) : (ringRd (F := F) GA).payload (sendCell h c) 0 d = gSl c (back h c) GA := by
  dsimp only [ringRd]; unfold payload; rw [if_neg (send_ne_bar h), payOf_send]; rfl
omit [FloatOps F] in
theorem payload_recv (d : Bool) : (ringRd (F := F) GA).payload (recvCell h c) 0 d = gSl c (back h (prv c)) GA := by
  dsimp only [ringRd]; unfold payload; rw [if_neg (recv_ne_bar h), payOf_recv]; rfl

omit [FloatOps F] in
/-- A cell's whole round. -/
theorem rest_bar : bigSep ((ringRd (F := F) GA).duties (barCell c) 0 \ ∅) (fun d => (ringRd (F := F) GA).payload (barCell c) 0 d) = iprop(emp ∗ barPay c) := by
  rw [Finset.sdiff_empty, duties_bar, bigSep_univ_eq_bigSepL [false, true] (by decide) (by decide), bigSepL_cons_cons, bigSepL_singleton,
    payload_bar_false, payload_bar_true]
  rfl
omit [FloatOps F] in
theorem rest_send : bigSep ((ringRd (F := F) GA).duties (sendCell h c) 0 \ ∅) (fun d => (ringRd (F := F) GA).payload (sendCell h c) 0 d) = gSl c (back h c) GA := by
  rw [Finset.sdiff_empty, duties_send, bigSep_singleton, payload_send]
omit [FloatOps F] in
theorem rest_recv : bigSep ((ringRd (F := F) GA).duties (recvCell h c) 0 \ ∅) (fun d => (ringRd (F := F) GA).payload (recvCell h c) 0 d) = gSl c (back h (prv c)) GA := by
  rw [Finset.sdiff_empty, duties_recv, bigSep_singleton, payload_recv]

end Schedule

/-! ## What each core owes at launch; the levels -/

/-- Transfer `h`'s credit at the next device. -/
abbrev OV (h : Fin 3) (c : Dev nD) : CellTallies nD τ sig Unit := tallyAt (recvCell h (nxt c)) () N
/-- What device `c` still owes before transfers 2, 1 and 0, before its second signal, and at launch. -/
def O₄ (c : Dev nD) : CellTallies nD τ sig Unit := 0 + OV 2 c
def O₃ (c : Dev nD) : CellTallies nD τ sig Unit := O₄ c + OV 1 c
def O₂ (c : Dev nD) : CellTallies nD τ sig Unit := O₃ c + OV 0 c
def O₁ (c : Dev nD) : CellTallies nD τ sig Unit := O₂ c + tallyAt (barCell (nxt c)) () 1
def O₀ (c : Dev nD) : CellTallies nD τ sig Unit := O₁ c + tallyAt (barCell (prv c)) () 1

def L (g : GSem nD τ sig) : Finset Unit := if g.1.2 = .tc then {()} else ∅
/-- A semaphore's level. -/
def lvS (s : SemLoc sig) : ℕ := if s = .reg barS then 1 else match payOf s with | some (true, h) => 2 + h.val | _ => 0
def lv (g : GSem nD τ sig) (_ : Unit) : ℕ := lvS g.2

theorem lvS_bar : lvS (.reg barS) = 1 := if_pos rfl
theorem lvS_send (h : Fin 3) : lvS (.dma (sendQ h)) = 0 := by revert h; decide
theorem lvS_recv (h : Fin 3) : lvS (.dma (recvQ h)) = 2 + h.val := by revert h; decide
theorem lvS_copy : lvS (.dma copyS) = 0 := by decide

theorem L_of_ne (g : GSem nD τ sig) (h : g.1.2 ≠ .tc) : L g = ∅ := if_neg h
theorem L_tc (c : Dev nD) (sm : SemLoc sig) : L ((c : Thread nD τ), sm) = {()} := if_pos rfl

/-- Everything owed lies on a TensorCore and above level `n`. -/
def Above (n : ℕ) (O : CellTallies nD τ sig Unit) : Prop := ∀ g u, 0 < O g u → u ∈ L g ∧ n < lv g u

theorem above_zero (n : ℕ) : Above n 0 := fun g u h => absurd h (Nat.lt_irrefl 0)
theorem above_add {n : ℕ} {O O' : CellTallies nD τ sig Unit} (h : Above n O) (h' : Above n O') : Above n (O + O') := fun g u hg => by
  rw [Pi.add_apply, Finsupp.add_apply] at hg
  by_cases h0 : 0 < O g u
  · exact h g u h0
  · exact h' g u (by omega)
theorem above_tally {n : ℕ} (c : Dev nD) (s : SemLoc sig) (k : ℕ) (hs : n < lvS s) : Above n (tallyAt ((c : Thread nD τ), s) () k) := fun g u hg => by
  rw [tallyAt_apply] at hg
  by_cases h : g = ((c : Thread nD τ), s) ∧ u = ()
  · rw [h.1, L_tc]; exact ⟨Finset.mem_singleton_self _, hs⟩
  · rw [if_neg h] at hg; exact absurd hg (Nat.lt_irrefl 0)

theorem above_O₄ (c : Dev nD) : Above 3 (O₄ c) := above_add (above_zero _) (above_tally _ _ _ (by rw [lvS_recv]; decide))
theorem above_O₃ (c : Dev nD) : Above 2 (O₃ c) :=
  above_add (above_add (above_zero _) (above_tally _ _ _ (by rw [lvS_recv]; decide))) (above_tally _ _ _ (by rw [lvS_recv]; decide))
theorem above_O₂ (c : Dev nD) : Above 1 (O₂ c) :=
  above_add (fun g u h => ⟨(above_O₃ c g u h).1, Nat.lt_of_succ_lt (above_O₃ c g u h).2⟩) (above_tally _ _ _ (by rw [lvS_recv]; decide))
theorem above_O₀ (c : Dev nD) : Above 0 (O₀ c) :=
  above_add (above_add (fun g u h => ⟨(above_O₂ c g u h).1, Nat.lt_of_succ_lt (above_O₂ c g u h).2⟩) (above_tally _ _ _ (by rw [lvS_bar]; decide)))
    (above_tally _ _ _ (by rw [lvS_bar]; decide))
theorem Above.mono {n n' : ℕ} {O : CellTallies nD τ sig Unit} (h : Above n O) (hn : n' ≤ n) : Above n' O :=
  fun g u hg => ⟨(h g u hg).1, Nat.lt_of_le_of_lt hn (h g u hg).2⟩

omit [FloatOps F] in
/-- A device may wait on a semaphore whose level everything it owes lies above. -/
theorem mayWait (c : Dev nD) (s : SemLoc sig) (O : CellTallies nD τ sig Unit) (hO : Above (lvS s) O) :
    (levAts L lv : sProp 𝕄) ⊢ MayWait (c : Thread nD τ) s () O :=
  MayOwe.of_cut (L := L) (lev := lv) (lvS s) (fun p hp => by rw [Finset.mem_singleton.mp hp, L_tc]; exact Finset.mem_singleton_self _)
    (fun g u hg => (hO g u hg).1)
    (fun p hp => by rw [Finset.mem_singleton.mp hp]; exact le_refl _)
    (fun g u hg => (hO g u hg).2)

end Cert.SortProof

end
-- ==== Proof.Body.lean ====
/-
# `Body`: the kernel on one device, one rule per effect in program order

Device `c` sorts its block's chunks, copies the block to its own rows of the gathered array, signals both neighbours
and waits for both; it then sends three row blocks to the next device, one after the other, and receives three from the
device before it; last it merges the gathered array chunk by chunk. It ends with its rows of the merged array.
-/
module

public import proofs.«01_k».proof.Proof.Sched

@[expose] public section

noncomputable section

namespace Cert.SortProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The gathered array by row blocks -/

theorem back_zero (c : Dev nD) : back 0 c = c := by revert c; decide
theorem back_one (c : Dev nD) : back 1 c = back 0 (prv c) := by revert c; decide
theorem back_two (c : Dev nD) : back 2 c = back 1 (prv c) := by revert c; decide

theorem slS_disjoint : ∀ j ∈ (Finset.univ : Finset (Dev nD)), ∀ j' ∈ (Finset.univ : Finset (Dev nD)), j ≠ j' → Disjoint (slS j) (slS j') :=
  fun j _ j' _ hne => Finset.disjoint_left.mpr fun i hi hi' =>
    hne (Fin.ext (by rw [← (mem_slS j i).mp hi, ← (mem_slS j' i).mp hi']))

theorem slS_cover : (Finset.univ : Finset (Dev nD)).biUnion slS = Finset.univ := by
  ext i
  simp only [Finset.mem_biUnion, Finset.mem_univ, true_and, iff_true]
  exact ⟨⟨(i 0).val / 4096, by have := row_lt (n0 := 16384) (n1 := 1024) i; show _ < 4; omega⟩, (mem_slS _ i).mpr rfl⟩

theorem devs_all (c : Dev nD) : (Finset.univ : Finset (Dev nD)) = [c, back 0 (prv c), back 1 (prv c), back 2 (prv c)].toFinset := by
  revert c; decide
theorem devs_nodup (c : Dev nD) : [c, back 0 (prv c), back 1 (prv c), back 2 (prv c)].Nodup := by revert c; decide

omit [FloatOps F] in
/-- The whole gathered array is its four row blocks. -/
theorem g_split (c : Dev nD) (f : FVec F S16384x1024 .bf16) :
    (gPts c f : sProp 𝕄) = iprop(gSl c c f ∗ gSl c (back 0 (prv c)) f ∗ gSl c (back 1 (prv c)) f ∗ gSl c (back 2 (prv c)) f) := by
  have h := pointsTo_biUnion (Val := Elt F) (ℓ := (c : Thread nD τ).loc main_v1_1) (q := fullShare) (f := f) (Ix := Unit) (Name := ℕ) (U := UU) (Lvl := ℕ)
    (Finset.univ : Finset (Dev nD)) slS slS_disjoint
  have h' : (gPts c f : sProp 𝕄) = bigSep Finset.univ fun j : Dev nD => gSl c j f := by
    refine Eq.trans ?_ h
    unfold gPts
    rw [slS_cover]
  rw [h', bigSep_univ_eq_bigSepL [c, back 0 (prv c), back 1 (prv c), back 2 (prv c)] (devs_all c) (devs_nodup c)]
  rfl

/-! ## What the copies land -/

/-- What a copy through a row block's view leaves there, when the source reads as `g` does. -/
theorem gSl_landed (c j : Dev nD) (f g : FVec F S16384x1024 .bf16) (w : FVec F S4096x1024 .bf16) (h : w = (gV j).view.read (Elt F) g) :
    gSl c j ((gV j).view.write (Elt F) f w Finset.univ) = (gSl c j g : sProp 𝕄) := by
  subst h
  unfold gSl
  refine pointsTo_congr fun i hi => ?_
  rw [View.write_read_eq_piecewise, View.setOn_univ]
  exact Finset.piecewise_eq_of_mem _ _ _ hi

omit [FloatOps F] in
theorem read_gV (j : Dev nD) (g : FVec F S16384x1024 .bf16) (y : S4096x1024.Idx) :
    (gV j).view.read (Elt F) g y
      = g (ix (n0 := 16384) (n1 := 1024) ⟨4096 * j.val + (y 0).val, by have := row_lt (n0 := 4096) (n1 := 1024) y; have : j.val < 4 := j.isLt; omega⟩ (y 1)) := by
  show g _ = g _
  refine congrArg g (idx_ext (n0 := 16384) (n1 := 1024) ?_ ?_)
  · show 4096 * j.val + 1 * (y 0).val = 4096 * j.val + (y 0).val
    omega
  · show 0 + 1 * (y 1).val = (y 1).val
    omega

/-- Device `c`'s rows of the gathered array are its sorted block. -/
theorem read_gath (X : Dev nD → FVec F S4096x1024 .bf16) (c : Dev nD) : locSort c (X c) = (gV c).view.read (Elt F) (gathAll X) := by
  funext y
  rw [read_gV]
  have hy := row_lt (n0 := 4096) (n1 := 1024) y
  have hc : c.val < 4 := c.isLt
  unfold gathAll
  have h1 : (⟨(4096 * c.val + (y 0).val) / 4096, by omega⟩ : Fin 4) = c := Fin.ext (by show (4096 * c.val + (y 0).val) / 4096 = c.val; omega)
  simp only [ix_zero, ix_one]
  have key : ∀ (d : Dev nD) (y' : S4096x1024.Idx), d = c → y' = y → locSort c (X c) y = locSort d (X d) y' := by
    intro d y' hd hy'; subst hd; subst hy'; rfl
  refine key _ _ h1 (idx_ext (n0 := 4096) (n1 := 1024) ?_ rfl)
  show (4096 * c.val + (y 0).val) % 4096 = (y 0).val
  omega

/-! ## The transfers -/

section Send

variable (GA : FVec F S16384x1024 .bf16) (K : Dev nD × Fin 7 → ℕ)

/-- Transfer `h` of device `c`, addressed to the next device, its rows at the gathered contents. -/
theorem wp_send_ring (h : Fin 3) (c n : Dev nD) (hn : n = nxt c) {off : Fin 2 → ℕ} (ho : off = ![4096 * (back h c).val, 0])
    {inb inb' : ∀ a, off a + S4096x1024.size a ≤ S16384x1024.size a}
    {hsc : ((gM).slice (Rect.unit (s := S16384x1024) off S4096x1024.size inb') (fun _ => rfl) : Memref sig (Dev.tc n : Thread nD τ).2.kind .hbm S4096x1024 .bf16).view.ref.isScScratch = false}
    {hsrc : ((gM).slice (Rect.unit (s := S16384x1024) off S4096x1024.size inb) (fun _ => rfl)).view.WordExact}
    {hdst : ((gM).slice (Rect.unit (s := S16384x1024) off S4096x1024.size inb') (fun _ => rfl)).view.WordExact}
    {hsem : DmaTarget.Typed .hbm (.dma (recvQ h)) (.remote (Dev.tc n : Thread nD τ)
      ((gM).slice (Rect.unit (s := S16384x1024) off S4096x1024.size inb') (fun _ => rfl) : Memref sig (Dev.tc n : Thread nD τ).2.kind .hbm S4096x1024 .bf16) (.dma (sendQ h)) hsc)}
    {α : Type} {Q : α → sProp 𝕄} {k : PUnit → Prog (TpuEff nD τ sig (Elt F) Λ₀ .tc) α}
    (fn : FVec F S16384x1024 .bf16) (O O' : CellTallies nD τ sig Unit) (hO : O = O' + OV h c) (W : Waits sig Unit) :
    iprop(cellInv ER (ringRd GA) (K (c, sendK h)) (sendCell h c) ∗ cellInv ER (ringRd GA) (K (nxt c, recvK h)) (recvCell h (nxt c))
        ∗ gSl c (back h c) GA ∗ gSl (nxt c) (back h c) fn
        ∗ owes (c : Thread nD τ) O W
        ∗ dutyTok ER (sendCell h c) 0 false ∗ reached ER (sendCell h c) 0
        ∗ dutyTok ER (recvCell h (nxt c)) 0 false ∗ reached ER (recvCell h (nxt c)) 0)
      ⊢ iprop(((cred (tallyAt (sendCell h c) () N) ∗ owes (c : Thread nD τ) O' W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((gM).slice (Rect.unit (s := S16384x1024) off S4096x1024.size inb) (fun _ => rfl))
                (.remote (Dev.tc n : Thread nD τ) ((gM).slice (Rect.unit (s := S16384x1024) off S4096x1024.size inb') (fun _ => rfl)) (.dma (sendQ h)) hsc)
                (.dma (recvQ h)) hsrc hdst hsem) k) Q) := by
  subst hn
  subst ho
  have hp : gSl (nxt c) (back h c) ((gV (back h c)).view.write (Elt F) fn ((gV (back h c)).view.read (Elt F) GA) Finset.univ)
      ⊢ (ringRd (F := F) GA).payload (recvCell h (nxt c)) 0 false := by
    rw [payload_recv, prv_nxt, gSl_landed _ _ _ GA _ rfl]
  have hs : gSl c (back h c) GA ⊢ (ringRd (F := F) GA).payload (sendCell h c) 0 false := by
    rw [payload_send]
  have hd₁ : false ∈ (ringRd (F := F) GA).duties (sendCell h c) 0 := by rw [duties_send]; exact Finset.mem_singleton_self _
  have hd₂ : false ∈ (ringRd (F := F) GA).duties (recvCell h (nxt c)) 0 := by rw [duties_recv]; exact Finset.mem_singleton_self _
  have hN : (gV (back h c)).view.amount (.dma (recvQ h)) = N := rfl
  have ha₁ := amount_send GA c h false
  have ha₂ := amount_recv GA (nxt c) h false
  unfold gSl slS at hp hs ⊢
  exact Rounds.wp_send_pointsTo 𝒱₀ ER (ringRd GA) (c : Thread nD τ) none (c' := (nxt c : Thread nD τ))
    (src := gV (back h c)) (dst := gV (back h c)) (fs := GA) (fd := fn) (κ₁ := K (c, sendK h)) (κ₂ := K (nxt c, recvK h))
    (r₁ := 0) (r₂ := 0) (d₁ := false) (d₂ := false) hd₁ hd₂ () () N hN ha₁ ha₂ O' hO (W := W) hs hp

end Send

/-- The copy of the sorted block into the device's own rows, and its wait. -/
theorem wp_copy_rows (X : Dev nD → FVec F S4096x1024 .bf16) (c : Dev nD) {off : Fin 2 → ℕ} (ho : off = ![4096 * c.val, 0])
    {inb inb' : ∀ a, off a + S4096x1024.size a ≤ S16384x1024.size a}
    {hsrc : (oM : Memref sig .tc .vmem S4096x1024 .bf16).view.WordExact}
    {hdst : ((gM).slice (Rect.unit (s := S16384x1024) off S4096x1024.size inb) (fun _ => rfl)).view.WordExact}
    {hsem : DmaTarget.Typed (nD := nD) .vmem (.dma copyS) (DmaTarget.here (p := (Dev.tc c : Thread nD τ).2) ((gM).slice (Rect.unit (s := S16384x1024) off S4096x1024.size inb) (fun _ => rfl)))}
    {hsrc' : (oM : Memref sig .tc .vmem S4096x1024 .bf16).view.WordExact}
    {hdst' : ((gM).slice (Rect.unit (s := S16384x1024) off S4096x1024.size inb') (fun _ => rfl)).view.WordExact}
    {α : Type} {Q : α → sProp 𝕄} {k : PUnit → Prog (TpuEff nD τ sig (Elt F) Λ₀ .tc) α}
    (f : FVec F S16384x1024 .bf16) (O : CellTallies nD τ sig Unit) (W : Waits sig Unit) :
    iprop(oPts c (locSort c (X c)) ∗ gSl c c f ∗ semVal (copyCell c) 0 ∗ owes (c : Thread nD τ) O W
        ∗ MayWait (c : Thread nD τ) (.dma copyS) () O)
      ⊢ iprop(((oPts c (locSort c (X c)) ∗ gSl c c (gathAll X) ∗ semVal (copyCell c) 0 ∗ owes (c : Thread nD τ) O (insert (SemLoc.dma copyS, ()) W))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma oM (.here ((gM).slice (Rect.unit (s := S16384x1024) off S4096x1024.size inb) (fun _ => rfl))) (.dma copyS) hsrc hdst hsem)
                fun _ => .op (.waitDma2 copyS oM ((gM).slice (Rect.unit (s := S16384x1024) off S4096x1024.size inb') (fun _ => rfl)) hsrc' hdst') k) Q) := by
  subst ho
  have hl := gSl_landed c c f (gathAll X) ((ReadAs.same (Val := Elt F)).apply ((oM : Memref sig .tc .vmem S4096x1024 .bf16).view.read (Elt F) (locSort c (X c))))
    ((View.read_whole (Val := Elt F) cc0_stg1_0 _).trans (read_gath X c))
  have hN : (gV c).view.amount (.dma copyS) = N := rfl
  have ho : (oPts c (locSort c (X c)) : sProp 𝕄)
      = ((oM : Memref sig .tc .vmem S4096x1024 .bf16).view.loc (c : Thread nD τ) ↦[(oM : Memref sig .tc .vmem S4096x1024 .bf16).view.set]{fullShare} locSort c (X c)) := by
    unfold oPts
    simp only [Memref.view_whole, View.set_whole]
  rw [ho]
  unfold gSl slS at hl ⊢
  iintro ⟨Ho, Hg, Hv, HO, Hmw⟩ Hk
  iapply (Transfers.wp_dmaLocal countersEmb 𝒱₀ (c : Thread nD τ) none (src := oM) (dst := gV c) (fs := locSort c (X c)) (fd := f)
    () N hN N_pos subset_rfl) $$ [Ho Hg Hv]
  · isplitl [Ho]; · iexact Ho
    isplitl [Hg]; · iexact Hg
    iexact Hv
  iintro HF
  iapply (Transfers.wp_waitLocalO countersEmb 𝒱₀ (c : Thread nD τ) none (dstw := gV c) () (N := N) hN) $$ [HF HO Hmw]
  · isplitl [HF]; · iexact HF
    isplitl [HO]; · iexact HO
    iexact Hmw
  iintro ⟨⟨Hg, Ho⟩, Hv, HO⟩
  iapply Hk
  isplitl [Ho]; · iexact Ho
  isplitl [Hg]; · ihave Hg' := (Entails.of_eq hl) $$ Hg; iexact Hg'
  isplitl [Hv]; · iexact Hv
  iexact HO

/-! ## What a device holds -/

section Body

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device `c`'s block of the argument, as staged. -/
def xstg (c : Dev nD) : FVec F S4096x1024 .bf16 :=
  (win0_0.blk (0 : Fin 1)).view.read (Elt F) ((s₀ m ρ).mem ((c : Thread nD τ).loc main_arg0))

/-- The gathered array once every block has come round. -/
def gath : FVec F S16384x1024 .bf16 := gathAll (xstg m ρ)

variable (K : Dev nD × Fin 7 → ℕ)

/-- Every ring cell's invariant, and that its round 0 is reached. -/
def records : sProp 𝕄 :=
  iprop((bigSep Finset.univ fun ck : Dev nD × Fin 7 => cellInv ER (ringRd (gath m ρ)) (K ck) (kcell ck))
    ∗ bigSep Finset.univ fun ck : Dev nD × Fin 7 => reached ER (kcell ck) 0)

omit [FloatOps F] in
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

instance records_persistent : BI.Persistent (records m ρ K) := by unfold records; infer_instance

theorem inv_elim (ck : Dev nD × Fin 7) :
    (bigSep Finset.univ fun ck : Dev nD × Fin 7 => (cellInv ER (ringRd (gath m ρ)) (K ck) (kcell ck) : sProp 𝕄))
      ⊢ cellInv ER (ringRd (gath m ρ)) (K ck) (kcell ck) :=
  bigSep_elim (Finset.mem_univ ck)
theorem inv_at (ck : Dev nD × Fin 7) : records m ρ K ⊢ cellInv ER (ringRd (gath m ρ)) (K ck) (kcell ck) := by
  unfold records
  iintro ⟨#HI, -⟩
  iapply (inv_elim m ρ K ck)
  iexact HI
theorem inv_bar (c : Dev nD) : records m ρ K ⊢ cellInv ER (ringRd (gath m ρ)) (K (c, 0)) (barCell c) := inv_at m ρ K (c, 0)
theorem inv_send (h : Fin 3) (c : Dev nD) : records m ρ K ⊢ cellInv ER (ringRd (gath m ρ)) (K (c, sendK h)) (sendCell h c) := by
  rw [← kcell_send]; exact inv_at m ρ K (c, sendK h)
theorem inv_recv (h : Fin 3) (c : Dev nD) : records m ρ K ⊢ cellInv ER (ringRd (gath m ρ)) (K (c, recvK h)) (recvCell h c) := by
  rw [← kcell_recv]; exact inv_at m ρ K (c, recvK h)
theorem reached_of (ck : Dev nD × Fin 7) : records m ρ K ⊢ reached ER (kcell ck) 0 := by
  unfold records
  iintro ⟨-, #HR⟩
  iapply (reached_at (F := F) ck)
  iexact HR
theorem reached_bar (c : Dev nD) : records m ρ K ⊢ reached ER (barCell c) 0 := reached_of m ρ K (c, 0)
theorem reached_send (h : Fin 3) (c : Dev nD) : records m ρ K ⊢ reached ER (sendCell h c) 0 := by
  rw [← kcell_send]; exact reached_of m ρ K (c, sendK h)
theorem reached_recv (h : Fin 3) (c : Dev nD) : records m ρ K ⊢ reached ER (recvCell h c) 0 := by
  rw [← kcell_recv]; exact reached_of m ρ K (c, recvK h)

/-- Device `c`'s positions in its own cells' rounds. -/
def atAll (c : Dev nD) : sProp 𝕄 :=
  iprop(atPos ER (barCell c) 0 ∅ 0 ∗ atPos ER (sendCell 0 c) 0 ∅ 0 ∗ atPos ER (sendCell 1 c) 0 ∅ 0 ∗ atPos ER (sendCell 2 c) 0 ∅ 0
    ∗ atPos ER (recvCell 0 c) 0 ∅ 0 ∗ atPos ER (recvCell 1 c) 0 ∅ 0 ∗ atPos ER (recvCell 2 c) 0 ∅ 0)
/-- The tokens of the duties device `c` pays. -/
def payToks (c : Dev nD) : sProp 𝕄 :=
  iprop(dutyTok ER (barCell (nxt c)) 0 false ∗ dutyTok ER (barCell (prv c)) 0 true
    ∗ dutyTok ER (sendCell 0 c) 0 false ∗ dutyTok ER (sendCell 1 c) 0 false ∗ dutyTok ER (sendCell 2 c) 0 false
    ∗ dutyTok ER (recvCell 0 (nxt c)) 0 false ∗ dutyTok ER (recvCell 1 (nxt c)) 0 false ∗ dutyTok ER (recvCell 2 (nxt c)) 0 false)
/-- Device `c`'s part of the protocol, and its copy semaphore at zero. -/
def ghost (c : Dev nD) : sProp 𝕄 := iprop(records m ρ K ∗ (atAll c ∗ payToks c) ∗ semVal (copyCell c) 0)

/-- The launch credit of device `c`. -/
def credits (c : Dev nD) : sProp 𝕄 :=
  iprop(cred (tallyAt (barCell c) () 2) ∗ cred (tallyAt (recvCell 0 c) () N) ∗ cred (tallyAt (recvCell 1 c) () N) ∗ cred (tallyAt (recvCell 2 c) () N))

/-- What device `c` starts from. -/
def start (c : Dev nD) : sProp 𝕄 := iprop((∃ K, ghost m ρ K c) ∗ credits c ∗ levAts L lv ∗ ∃ f, gPts c f)

def Φ₀ (c : Dev nD) : sProp 𝕄 := iprop(start m ρ c ∗ ∃ f, sPts c f)
/-- After the body: the stage, and every semaphore of the device at zero. -/
def Φ₁ (c : Dev nD) : sProp 𝕄 :=
  iprop((∃ f, sPts c f) ∗ (semVal (copyCell c) 0 ∗ semVal (sendCell 0 c) 0 ∗ semVal (sendCell 1 c) 0 ∗ semVal (sendCell 2 c) 0
    ∗ semVal (recvCell 0 c) 0 ∗ semVal (recvCell 1 c) 0 ∗ semVal (recvCell 2 c) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outOf c (gath m ρ)
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

theorem fetch_x (t : Fin cfg0.N) : (cfg0.win (0 : Fin 2)).fetch t = true := by rw [fin_N0 t]; rfl

def bodyPre (c : Dev nD) : sProp 𝕄 :=
  iprop((ghost m ρ K c ∗ credits c ∗ levAts L lv ∗ (∃ f, gPts c f) ∗ ∃ f, sPts c f)
    ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ c ∗ (dats m ρ 0 c).owesAt () t0_0.succ ∗ stg c cc0_stg0_0 (xstg m ρ c) ∗ stg c cc0_stg1_0 (outOf c (gath m ρ)))

set_option maxHeartbeats 4000000 in
/-- The body, one rule per effect in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ (c : Thread nD τ) none) Set.univ
          (cc0_body xM (Memref.isWhole_whole _) oM (Memref.isWhole_whole _) gM (Memref.isWhole_whole _) sM (Memref.isWhole_whole _)
            cc0_scratch1 cc0_scratch2 cc0_scratch3) Kt := by
  simp only [cc0_body_eq_skeleton]; unfold cc0_body_skel
  simp only [k0_part1_eq_skeleton, k0_part2_eq_skeleton, k0_part3_eq_skeleton]
  unfold k0_part1_skel k0_part2_skel k0_part3_skel
  simp only [semSignalWord, semWaitWord, Prog.lift, Prog.bind_op, Prog.bind_ret, Prog.pure_eq_ret, Prog.bind_assoc, wp_deviceId]
  unfold bodyPre ghost atAll payToks credits
  iintro ⟨⟨⟨⟨#HR, ⟨⟨HaB, HaS0, HaS1, HaS2, HaV0, HaV1, HaV2⟩, HtBN, HtBP, HtS0, HtS1, HtS2, HtV0, HtV1, HtV2⟩, HvC⟩,
      ⟨HcB, HcV0, HcV1, HcV2⟩, #Hlev, ⟨%f0, Hg⟩, ⟨%s0, Hs⟩⟩,
    Ho, ⟨%d0, %g0, %hg0, Hx⟩, ⟨%d1, %g1, %hg1, Hout⟩⟩, Hk⟩
  have hx : g0 = xstg m ρ c := by rw [hg0]; unfold Dat.before; rw [if_pos (fetch_x t0_0)]; rfl
  subst hx
  unfold Dat.owesAt Pipeline.owesWithin
  icases Ho with ⟨%W, %hW, HO⟩
  rw [show (dats m ρ 0 c).owed t0_0.castSucc = O₀ c from rfl]
  simp only [dev1_eq c, dev2_eq c]
  -- the local sort
  iapply (wp_t1 c (xstg m ρ c) g1 k0_t1_ok) $$ [Hx Hout]
  · isplitl [Hx]
    · unfold xPts; iexact Hx
    · unfold oPts; iexact Hout
  iintro ⟨Hx, Hout⟩
  -- the copy into its own rows
  ihave Hg4 := (Entails.of_eq (g_split c f0)) $$ Hg
  icases Hg4 with ⟨Hgc, Hgr⟩
  iapply (wp_copy_rows (xstg m ρ) c (k0_off2_eq c) f0 (O₀ c) W) $$ [Hout Hgc HvC HO]
  · isplitl [Hout]; · iexact Hout
    isplitl [Hgc]; · iexact Hgc
    isplitl [HvC]; · iexact HvC
    isplitl [HO]; · iexact HO
    iapply (mayWait c (.dma copyS) (O₀ c) ((above_O₀ c).mono (by rw [lvS_copy]))); iexact Hlev
  iintro ⟨Hout, Hgc, HvC, HO⟩
  -- the first signal, to the device before: this device's other row blocks
  unfold O₀
  iapply (Rounds.wp_signal 𝒱₀ ER (ringRd (gath m ρ)) (c : Thread nD τ) none (dst := (prv c : Thread nD τ)) (κ := K (prv c, 0))
      (d := true) (by rw [duties_bar]; exact Finset.mem_univ _) ((amount_bar (gath m ρ) (prv c) true).trans (by decide)) () (O₁ c) rfl)
    $$ [HO HtBP Hgr]
  · isplitr; · iapply (inv_bar m ρ K (prv c)); iexact HR
    isplitl [HO]; · iexact HO
    isplitl [HtBP]; · iexact HtBP
    isplitl [Hgr]
    · rw [payload_bar_true]; unfold barPay; rw [nxt_prv]
      icases Hgr with ⟨H0, H1, H2⟩
      isplitl [H0]; · iexists f0; iexact H0
      isplitl [H1]; · iexists f0; iexact H1
      iexists f0; iexact H2
    · iapply (reached_bar m ρ K (prv c)); iexact HR
  iintro HO
  -- the second, to the next device: nothing
  unfold O₁
  iapply (Rounds.wp_signal 𝒱₀ ER (ringRd (gath m ρ)) (c : Thread nD τ) none (dst := (nxt c : Thread nD τ)) (κ := K (nxt c, 0))
      (d := false) (by rw [duties_bar]; exact Finset.mem_univ _) ((amount_bar (gath m ρ) (nxt c) false).trans (by decide)) () (O₂ c) rfl)
    $$ [HO HtBN]
  · isplitr; · iapply (inv_bar m ρ K (nxt c)); iexact HR
    isplitl [HO]; · iexact HO
    isplitl [HtBN]; · iexact HtBN
    isplitr; · rw [payload_bar_false]; iempintro
    iapply (reached_bar m ρ K (nxt c)); iexact HR
  iintro HO
  -- the wait for both neighbours: the next device's row blocks
  iapply (Rounds.wp_wait_rest_token 𝒱₀ ER (ringRd (gath m ρ)) (c : Thread nD τ) none (κ := K (c, 0))
      (wpE_semWait_eq 𝒱₀ (c : Thread nD τ) none Set.univ) (Set.mem_univ _) () (O := O₂ c) (W := _) (R := 0) (m := 0) (T := ∅)
      (by rw [expect_bar]; decide)) $$ [HcB HO HaB]
  · isplitr; · iapply (inv_bar m ρ K c); iexact HR
    isplitl [HcB]; · iexact HcB
    isplitl [HO]; · iexact HO
    isplitr
    · iapply (mayWait c (.reg barS) (O₂ c) ((above_O₂ c).mono (by rw [lvS_bar]))); iexact Hlev
    iexact HaB
  iintro ⟨HO, HaB, -, Hpay⟩
  ihave Hp := (Entails.of_eq (rest_bar (gath m ρ) c)) $$ Hpay
  unfold barPay
  icases Hp with ⟨-, ⟨%fn0, Hg0'⟩, ⟨%fn1, Hg1'⟩, ⟨%fn2, Hg2'⟩⟩
  ihave Hr0 := (Entails.of_eq (congrArg (fun j => (gSl c j (gathAll (xstg m ρ)) : sProp 𝕄)) (back_zero c).symm)) $$ Hgc

  -- transfer 0: device `back 0 c`'s rows to the next device
  iapply (wp_send_ring (gath m ρ) K 0 c _ (dev3_eq c) (k0_off3_eq c 0) fn0 (O₂ c) (O₃ c) rfl _) $$ [Hr0 Hg0' HO HtS0 HtV0]
  · isplitr; · iapply (inv_send m ρ K 0 c); iexact HR
    isplitr; · iapply (inv_recv m ρ K 0 (nxt c)); iexact HR
    isplitl [Hr0]; · iexact Hr0
    isplitl [Hg0']; · iexact Hg0'
    isplitl [HO]; · iexact HO
    isplitl [HtS0]; · iexact HtS0
    isplitr; · iapply (reached_send m ρ K 0 c); iexact HR
    isplitl [HtV0]; · iexact HtV0
    iapply (reached_recv m ρ K 0 (nxt c)); iexact HR
  iintro ⟨HcS, HO⟩
  -- its rows back
  iapply (Rounds.wp_wait_rest_token 𝒱₀ ER (ringRd (gath m ρ)) (c : Thread nD τ) none (κ := K (c, sendK 0))
      (wpE_waitDma2_eq 𝒱₀ (c : Thread nD τ) none Set.univ) (Set.mem_univ _) () (O := (O₃ c)) (W := _) (R := 0) (m := 0) (T := ∅)
      (by rw [Nat.zero_add]; exact (expect_send (gath m ρ) c 0).symm)) $$ [HcS HO HaS0]
  · isplitr; · iapply (inv_send m ρ K 0 c); iexact HR
    isplitl [HcS]; · iexact HcS
    isplitl [HO]; · iexact HO
    isplitr
    · iapply (mayWait c (.dma (sendQ 0)) (O₃ c) ((above_O₃ c).mono (by rw [lvS_send]; exact Nat.zero_le _))); iexact Hlev
    iexact HaS0
  iintro ⟨HO, HaS0, -, Hpay⟩
  ihave Hr0 := (Entails.of_eq (rest_send (gath m ρ) c 0)) $$ Hpay
  -- the rows of the device before
  iapply (Rounds.wp_wait_rest_token 𝒱₀ ER (ringRd (gath m ρ)) (c : Thread nD τ) none (κ := K (c, recvK 0))
      (wpE_waitDma2_eq 𝒱₀ (c : Thread nD τ) none Set.univ) (Set.mem_univ _) () (O := (O₃ c)) (W := _) (R := 0) (m := 0) (T := ∅)
      (by rw [Nat.zero_add]; exact (expect_recv (gath m ρ) c 0).symm)) $$ [HcV0 HO HaV0]
  · isplitr; · iapply (inv_recv m ρ K 0 c); iexact HR
    isplitl [HcV0]; · iexact HcV0
    isplitl [HO]; · iexact HO
    isplitr
    · iapply (mayWait c (.dma (recvQ 0)) (O₃ c) ((above_O₃ c).mono (by rw [lvS_recv]; decide))); iexact Hlev
    iexact HaV0
  iintro ⟨HO, HaV0, -, Hpay⟩
  ihave Hl0 := (Entails.of_eq (rest_recv (gath m ρ) c 0)) $$ Hpay
  ihave Hr1 := (Entails.of_eq (congrArg (fun j => (gSl c j (gath m ρ) : sProp 𝕄)) (back_one c).symm)) $$ Hl0

  -- transfer 1: device `back 1 c`'s rows to the next device
  iapply (wp_send_ring (gath m ρ) K 1 c _ (dev4_eq c) (k0_off3_eq c 1) fn1 (O₃ c) (O₄ c) rfl _) $$ [Hr1 Hg1' HO HtS1 HtV1]
  · isplitr; · iapply (inv_send m ρ K 1 c); iexact HR
    isplitr; · iapply (inv_recv m ρ K 1 (nxt c)); iexact HR
    isplitl [Hr1]; · iexact Hr1
    isplitl [Hg1']; · iexact Hg1'
    isplitl [HO]; · iexact HO
    isplitl [HtS1]; · iexact HtS1
    isplitr; · iapply (reached_send m ρ K 1 c); iexact HR
    isplitl [HtV1]; · iexact HtV1
    iapply (reached_recv m ρ K 1 (nxt c)); iexact HR
  iintro ⟨HcS, HO⟩
  -- its rows back
  iapply (Rounds.wp_wait_rest_token 𝒱₀ ER (ringRd (gath m ρ)) (c : Thread nD τ) none (κ := K (c, sendK 1))
      (wpE_waitDma2_eq 𝒱₀ (c : Thread nD τ) none Set.univ) (Set.mem_univ _) () (O := (O₄ c)) (W := _) (R := 0) (m := 0) (T := ∅)
      (by rw [Nat.zero_add]; exact (expect_send (gath m ρ) c 1).symm)) $$ [HcS HO HaS1]
  · isplitr; · iapply (inv_send m ρ K 1 c); iexact HR
    isplitl [HcS]; · iexact HcS
    isplitl [HO]; · iexact HO
    isplitr
    · iapply (mayWait c (.dma (sendQ 1)) (O₄ c) ((above_O₄ c).mono (by rw [lvS_send]; exact Nat.zero_le _))); iexact Hlev
    iexact HaS1
  iintro ⟨HO, HaS1, -, Hpay⟩
  ihave Hr1 := (Entails.of_eq (rest_send (gath m ρ) c 1)) $$ Hpay
  -- the rows of the device before
  iapply (Rounds.wp_wait_rest_token 𝒱₀ ER (ringRd (gath m ρ)) (c : Thread nD τ) none (κ := K (c, recvK 1))
      (wpE_waitDma2_eq 𝒱₀ (c : Thread nD τ) none Set.univ) (Set.mem_univ _) () (O := (O₄ c)) (W := _) (R := 0) (m := 0) (T := ∅)
      (by rw [Nat.zero_add]; exact (expect_recv (gath m ρ) c 1).symm)) $$ [HcV1 HO HaV1]
  · isplitr; · iapply (inv_recv m ρ K 1 c); iexact HR
    isplitl [HcV1]; · iexact HcV1
    isplitl [HO]; · iexact HO
    isplitr
    · iapply (mayWait c (.dma (recvQ 1)) (O₄ c) ((above_O₄ c).mono (by rw [lvS_recv]; decide))); iexact Hlev
    iexact HaV1
  iintro ⟨HO, HaV1, -, Hpay⟩
  ihave Hl1 := (Entails.of_eq (rest_recv (gath m ρ) c 1)) $$ Hpay
  ihave Hr2 := (Entails.of_eq (congrArg (fun j => (gSl c j (gath m ρ) : sProp 𝕄)) (back_two c).symm)) $$ Hl1

  -- transfer 2: device `back 2 c`'s rows to the next device
  iapply (wp_send_ring (gath m ρ) K 2 c _ (dev5_eq c) (k0_off3_eq c 2) fn2 (O₄ c) 0 rfl _) $$ [Hr2 Hg2' HO HtS2 HtV2]
  · isplitr; · iapply (inv_send m ρ K 2 c); iexact HR
    isplitr; · iapply (inv_recv m ρ K 2 (nxt c)); iexact HR
    isplitl [Hr2]; · iexact Hr2
    isplitl [Hg2']; · iexact Hg2'
    isplitl [HO]; · iexact HO
    isplitl [HtS2]; · iexact HtS2
    isplitr; · iapply (reached_send m ρ K 2 c); iexact HR
    isplitl [HtV2]; · iexact HtV2
    iapply (reached_recv m ρ K 2 (nxt c)); iexact HR
  iintro ⟨HcS, HO⟩
  -- its rows back
  iapply (Rounds.wp_wait_rest_token 𝒱₀ ER (ringRd (gath m ρ)) (c : Thread nD τ) none (κ := K (c, sendK 2))
      (wpE_waitDma2_eq 𝒱₀ (c : Thread nD τ) none Set.univ) (Set.mem_univ _) () (O := 0) (W := _) (R := 0) (m := 0) (T := ∅)
      (by rw [Nat.zero_add]; exact (expect_send (gath m ρ) c 2).symm)) $$ [HcS HO HaS2]
  · isplitr; · iapply (inv_send m ρ K 2 c); iexact HR
    isplitl [HcS]; · iexact HcS
    isplitl [HO]; · iexact HO
    isplitr
    · iapply (mayWait c (.dma (sendQ 2)) 0 ((above_zero 4).mono (by rw [lvS_send]; exact Nat.zero_le _))); iexact Hlev
    iexact HaS2
  iintro ⟨HO, HaS2, -, Hpay⟩
  ihave Hr2 := (Entails.of_eq (rest_send (gath m ρ) c 2)) $$ Hpay
  -- the rows of the device before
  iapply (Rounds.wp_wait_rest_token 𝒱₀ ER (ringRd (gath m ρ)) (c : Thread nD τ) none (κ := K (c, recvK 2))
      (wpE_waitDma2_eq 𝒱₀ (c : Thread nD τ) none Set.univ) (Set.mem_univ _) () (O := 0) (W := _) (R := 0) (m := 0) (T := ∅)
      (by rw [Nat.zero_add]; exact (expect_recv (gath m ρ) c 2).symm)) $$ [HcV2 HO HaV2]
  · isplitr; · iapply (inv_recv m ρ K 2 c); iexact HR
    isplitl [HcV2]; · iexact HcV2
    isplitl [HO]; · iexact HO
    isplitr
    · iapply (mayWait c (.dma (recvQ 2)) 0 ((above_zero 4).mono (by rw [lvS_recv]; decide))); iexact Hlev
    iexact HaV2
  iintro ⟨HO, HaV2, -, Hpay⟩
  ihave Hl2 := (Entails.of_eq (rest_recv (gath m ρ) c 2)) $$ Hpay
  -- the whole gathered array
  ihave Hr0 := (Entails.of_eq (congrArg (fun j => (gSl c j (gath m ρ) : sProp 𝕄)) (back_zero c))) $$ Hr0
  ihave Hr1 := (Entails.of_eq (congrArg (fun j => (gSl c j (gath m ρ) : sProp 𝕄)) (back_one c))) $$ Hr1
  ihave Hr2 := (Entails.of_eq (congrArg (fun j => (gSl c j (gath m ρ) : sProp 𝕄)) (back_two c))) $$ Hr2
  ihave Hg := (Entails.of_eq (g_split c (gath m ρ)).symm) $$ [Hr0 Hr1 Hr2 Hl2]
  · isplitl [Hr0]; · iexact Hr0
    isplitl [Hr1]; · iexact Hr1
    isplitl [Hr2]; · iexact Hr2
    iexact Hl2
  imod (Rounds.cell_close ER (ringRd (gath m ρ)) (Set.mem_univ (K (c, 0))) (fun h => h) (R := 0 + 1) (duties_later (gath m ρ) (barCell c))) $$ [HaB] with HzB
  · isplitr; · iapply (inv_bar m ρ K c); iexact HR
    iexact HaB
  imod (Rounds.cell_close ER (ringRd (gath m ρ)) (Set.mem_univ (K (c, sendK 0))) (fun h => h) (R := 0 + 1) (duties_later (gath m ρ) (sendCell 0 c))) $$ [HaS0] with HzS0
  · isplitr; · iapply (inv_send m ρ K 0 c); iexact HR
    iexact HaS0
  imod (Rounds.cell_close ER (ringRd (gath m ρ)) (Set.mem_univ (K (c, sendK 1))) (fun h => h) (R := 0 + 1) (duties_later (gath m ρ) (sendCell 1 c))) $$ [HaS1] with HzS1
  · isplitr; · iapply (inv_send m ρ K 1 c); iexact HR
    iexact HaS1
  imod (Rounds.cell_close ER (ringRd (gath m ρ)) (Set.mem_univ (K (c, sendK 2))) (fun h => h) (R := 0 + 1) (duties_later (gath m ρ) (sendCell 2 c))) $$ [HaS2] with HzS2
  · isplitr; · iapply (inv_send m ρ K 2 c); iexact HR
    iexact HaS2
  imod (Rounds.cell_close ER (ringRd (gath m ρ)) (Set.mem_univ (K (c, recvK 0))) (fun h => h) (R := 0 + 1) (duties_later (gath m ρ) (recvCell 0 c))) $$ [HaV0] with HzV0
  · isplitr; · iapply (inv_recv m ρ K 0 c); iexact HR
    iexact HaV0
  imod (Rounds.cell_close ER (ringRd (gath m ρ)) (Set.mem_univ (K (c, recvK 1))) (fun h => h) (R := 0 + 1) (duties_later (gath m ρ) (recvCell 1 c))) $$ [HaV1] with HzV1
  · isplitr; · iapply (inv_recv m ρ K 1 c); iexact HR
    iexact HaV1
  imod (Rounds.cell_close ER (ringRd (gath m ρ)) (Set.mem_univ (K (c, recvK 2))) (fun h => h) (R := 0 + 1) (duties_later (gath m ρ) (recvCell 2 c))) $$ [HaV2] with HzV2
  · isplitr; · iapply (inv_recv m ρ K 2 c); iexact HR
    iexact HaV2
  -- the merge
  iapply (wp_t5 c (gath m ρ) _ _ k0_t5_ok) $$ [Hg Hs Hout HvC HO]
  · isplitl [Hg]; · iexact Hg
    isplitl [Hs]; · iexists s0; iexact Hs
    isplitl [Hout]; · iexact Hout
    isplitl [HvC]; · iexact HvC
    iexact HO
  iintro ⟨Hg, Hs, Hout, HvC, ⟨%W', HO⟩⟩
  rw [wp_ret]; imodintro
  iapply Hk
  unfold bodyPost Φ₁ Dat.owesAt Pipeline.owesWithin
  rw [show (dats m ρ 0 c).owed t0_0.succ = 0 from rfl]
  isplitl [Hs HvC HzS0 HzS1 HzS2 HzV0 HzV1 HzV2 HzB]
  · isplitl [Hs]; · iexact Hs
    isplitl [HvC HzS0 HzS1 HzS2 HzV0 HzV1 HzV2]
    · isplitl [HvC]; · iexact HvC
      isplitl [HzS0]; · iexact HzS0
      isplitl [HzS1]; · iexact HzS1
      isplitl [HzS2]; · iexact HzS2
      isplitl [HzV0]; · iexact HzV0
      isplitl [HzV1]; · iexact HzV1
      iexact HzV2
    iexact HzB
  isplitl [HO]
  · iexists W'
    isplitr; · ipureintro; exact fun _ _ => Or.inl trivial
    iexact HO
  isplitl [Hx]
  · iexists _; isplitr; · (ipureintro; rfl)
    unfold xPts; iexact Hx
  iexists _; isplitr; · (ipureintro; rfl)
  unfold oPts; iexact Hout

set_option maxRecDepth 4000 in
def bodyPre' (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

set_option maxRecDepth 4000 in
/-- The pipeline's obligation for the one grid point on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ (c : Thread nD τ) none) Set.univ
    (cc0_body xM (Memref.isWhole_whole _) oM (Memref.isWhole_whole _) gM (Memref.isWhole_whole _) sM (Memref.isWhole_whole _)
      cc0_scratch1 cc0_scratch2 cc0_scratch3) (fun _ => bodyPost m ρ c)
  unfold bodyPre' Φ₀ start
  iintro ⟨⟨⟨⟨%K, Hg⟩, Hc, Hl, Hga⟩, Hs⟩, Ho, Hx, Hout⟩
  iapply (sound_body m ρ K c fun _ => bodyPost m ρ c)
  unfold bodyPre
  isplitr []
  · isplitl [Hg Hc Hl Hga Hs]
    · isplitl [Hg]; · iexact Hg
      isplitl [Hc]; · iexact Hc
      isplitl [Hl]; · iexact Hl
      isplitl [Hga] <;> iassumption
    isplitl [Ho]; · iexact Ho
    isplitl [Hx] <;> iassumption
  · iintro H; iexact H

end Body

end Cert.SortProof

end
-- ==== Proof.Launch.lean ====
/-
# `Launch`: the four devices set up, and the run of the whole program

The protocol's cells are allocated for all devices at once, their tokens dealt around the ring, and the bodies run
under the pipeline library's launch theorem. Every run ends with each device's result at its rows of the merged array,
the argument as it was, and every semaphore at zero.
-/
module

public import proofs.«01_k».proof.Proof.Body
public import Idealize.ShloMosaic.Lib.Pipeline.Launch
public import Idealize.ShloMosaic.Lib.Pipeline.Kit
public import Idealize.ShloMosaic.Lib.Pipeline.CollectiveSegs

@[expose] public section

noncomputable section

namespace Cert.SortProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

/-! ## The cells and their tokens -/

theorem csem_injective : Function.Injective csem := by decide

theorem kcell_injective : Function.Injective (kcell : Dev nD × Fin 7 → GSem nD τ sig) := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

/-- Which cell and duty a device's `j`-th own token is for: its barrier's two duties, then its transfers' one each. -/
abbrev tokSem : Fin 8 → SemLoc sig × Bool := fun
  | 0 => (.reg barS, false) | 1 => (.reg barS, true)
  | 2 => (.dma (sendQ 0), false) | 3 => (.dma (sendQ 1), false) | 4 => (.dma (sendQ 2), false)
  | 5 => (.dma (recvQ 0), false) | 6 => (.dma (recvQ 1), false) | 7 => (.dma (recvQ 2), false)
theorem tokSem_injective : Function.Injective tokSem := by decide
abbrev tokOf (cj : Dev nD × Fin 8) : GSem nD τ sig × ℕ × Bool := (((cj.1 : Thread nD τ), (tokSem cj.2).1), 0, (tokSem cj.2).2)
theorem tokOf_injective : Function.Injective (tokOf : Dev nD × Fin 8 → GSem nD τ sig × ℕ × Bool) := by
  rintro ⟨c, j⟩ ⟨c', j'⟩ h
  have h1 : c = c' := congrArg (fun x : GSem nD τ sig × ℕ × Bool => x.1.1.1) h
  have h2 : j = j' := tokSem_injective (Prod.ext (congrArg (fun x : GSem nD τ sig × ℕ × Bool => x.1.2) h) (congrArg (fun x : GSem nD τ sig × ℕ × Bool => x.2.2) h))
  rw [h1, h2]
def ringToks : Finset (GSem nD τ sig × ℕ × Bool) := Finset.univ.map ⟨tokOf, tokOf_injective⟩

def u₀ : UU :=
  (initOf (Pipeline.cells cfgs cellOf_inj) (Pipeline.launchToks cfgs cellOf_inj), (initOf ringCells ringToks, 1))

/-- The duty tokens of device `c`'s own cells. -/
def toks (c : Dev nD) : sProp 𝕄 :=
  iprop(dutyTok ER (barCell c) 0 false ∗ dutyTok ER (barCell c) 0 true
    ∗ dutyTok ER (sendCell 0 c) 0 false ∗ dutyTok ER (sendCell 1 c) 0 false ∗ dutyTok ER (sendCell 2 c) 0 false
    ∗ dutyTok ER (recvCell 0 c) 0 false ∗ dutyTok ER (recvCell 1 c) 0 false ∗ dutyTok ER (recvCell 2 c) 0 false)

/-- What the launch deals device `c`. -/
def G (c : Dev nD) : sProp 𝕄 :=
  iprop((bigSep Finset.univ fun k : Fin 7 => roundState ER (ringRd (gath m ρ)) (kcell (c, k)) 0)
    ∗ (bigSep Finset.univ fun k : Fin 7 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 7 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin8]; rfl
  iintro HX
  imod (Rounds.fund ER (ringRd (gath m ρ)) ringCells ringToks) $$ HX with ⟨Hst, Hr, Hat, Htok⟩
  imodintro
  ihave Hst' := (Entails.of_eq (hX fun g => roundState ER (ringRd (gath m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The local copies' and the transfers' semaphores are the kernel's own; -/
theorem ownSems0_eq (c : Dev nD) : (Pipeline.ownSems0 (Ix := Unit) (Name := ℕ) (U := UU) (Lvl := ℕ) (Val := Elt F) (τ := τ) osem c : sProp 𝕄)
    = iprop(semVal (copyCell c) 0 ∗ semVal (sendCell 0 c) 0 ∗ semVal (sendCell 1 c) 0 ∗ semVal (sendCell 2 c) 0
      ∗ semVal (recvCell 0 c) 0 ∗ semVal (recvCell 1 c) 0 ∗ semVal (recvCell 2 c) 0) := by
  rw [Pipeline.ownSems0_eq_of_list c osem [0, 1, 2, 3, 4, 5, 6] (by decide) (by decide)]; rfl
omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (iprop(semVal (copyCell c) 0 ∗ bigSep Finset.univ fun k : Fin 7 => semVal (kcell (c, k)) 0) : sProp 𝕄) := by
  rw [ownSems0_eq, unscopedSems0_eq, bigSep_fin7]
  iintro ⟨⟨HC, HS0, HS1, HS2, HV0, HV1, HV2⟩, HB⟩
  isplitl [HC]; · iexact HC
  isplitl [HB]; · iexact HB
  isplitl [HS0]; · iexact HS0
  isplitl [HS1]; · iexact HS1
  isplitl [HS2]; · iexact HS2
  isplitl [HV0]; · iexact HV0
  isplitl [HV1]; · iexact HV1
  iexact HV2

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd (gath m ρ)) κ (kcell (c, k))))
          ∗ (bigSep Finset.univ fun k => iprop(atPos ER (kcell (c, k)) 0 ∅ 0 ∗ reached ER (kcell (c, k)) 0)) ∗ toks c ∗ semVal (copyCell c) 0) := by
  unfold G
  iintro ⟨Hos, Hus, Hst, Hat, Htok⟩
  ihave Hv := (sems0_eq (F := F) c) $$ [Hos Hus]
  · isplitl [Hos] <;> iassumption
  icases Hv with ⟨HC, Hv⟩
  imod (show iprop((bigSep Finset.univ fun k : Fin 7 => semVal (kcell (c, k)) 0) ∗ bigSep Finset.univ fun k : Fin 7 => roundState ER (ringRd (gath m ρ)) (kcell (c, k)) 0)
      ⊢ (|={Set.univ}=> bigSep Finset.univ fun k => iprop(∃ κ : ℕ, cellInv ER (ringRd (gath m ρ)) κ (kcell (c, k))) : sProp 𝕄) from by
        rw [← bigSep_sep']
        exact (bigSep_mono fun k _ => (Rounds.body_intro ER (ringRd (gath m ρ)) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact HC

omit [FloatOps F] in
/-- The tokens dealt around the ring: each device gets those of the duties it pays. -/
theorem toks_around : (bigSep Finset.univ fun c : Dev nD => (toks c : sProp 𝕄)) ⊢ bigSep Finset.univ fun c : Dev nD => payToks c := by
  unfold toks payToks
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => (dutyTok ER (recvCell 0 c) 0 false : sProp 𝕄)),
    bigSep_univ_equiv ring (fun c : Dev nD => (dutyTok ER (recvCell 1 c) 0 false : sProp 𝕄)),
    bigSep_univ_equiv ring (fun c : Dev nD => (dutyTok ER (recvCell 2 c) 0 false : sProp 𝕄))]
  iintro H
  iexact H

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 7 → ℕ) (c : Dev nD) :
    iprop(records m ρ K ∗ (atAll c ∗ payToks c) ∗ semVal (copyCell c) 0) ⊢ G' m ρ c := by
  unfold G' ghost
  iintro H
  iexists K
  iexact H

theorem regroup :
    (bigSep Finset.univ fun c : Dev nD => iprop((bigSep Finset.univ fun k => iprop(∃ κ : ℕ, cellInv ER (ringRd (gath m ρ)) κ (kcell (c, k))))
          ∗ (bigSep Finset.univ fun k => iprop(atPos ER (kcell (c, k)) 0 ∅ 0 ∗ reached ER (kcell (c, k)) 0)) ∗ toks c ∗ semVal (copyCell c) 0) : sProp 𝕄)
      ⊢ bigSep Finset.univ (G' m ρ) := by
  rw [bigSep_sep', bigSep_sep', bigSep_sep', ← bigSep_univ_prod (fun ck : Dev nD × Fin 7 => iprop(∃ κ : ℕ, cellInv ER (ringRd (gath m ρ)) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok, HC⟩
  ihave HK := (BI.bigSep_exists_pi Finset.univ (fun (ck : Dev nD × Fin 7) (κ : ℕ) => (cellInv ER (ringRd (gath m ρ)) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · rw [bigSep_sep', bigSep_sep', bigSep_congr (s := Finset.univ) (fun (c : Dev nD) _ =>
      (show (atAll c : sProp 𝕄) = bigSep Finset.univ fun k : Fin 7 => (atPos ER (kcell (c, k)) 0 ∅ 0 : sProp 𝕄) by rw [bigSep_fin7]; rfl))]
    isplitl [Hat Htk]
    · isplitl [Hat]; · iexact Hat
      iexact Htk
    iexact HC

/-- Every device's semaphores at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem bar_eq_iff {a b : Dev nD} : Iff (barCell a = barCell b) (a = b) :=
  ⟨fun h => Fin.ext (congrArg (fun g : GSem nD τ sig => g.1.1.val) h), fun h => h ▸ rfl⟩
theorem recvQ_injective : Function.Injective (fun h : Fin 3 => (SemLoc.dma (recvQ h) : SemLoc sig)) := by decide
theorem recv_eq_iff {h h' : Fin 3} {a b : Dev nD} : Iff (recvCell h a = recvCell h' b) (h = h' ∧ a = b) :=
  ⟨fun e => ⟨recvQ_injective (congrArg Prod.snd e), Fin.ext (congrArg (fun g : GSem nD τ sig => g.1.1.val) e)⟩, fun ⟨e, e'⟩ => by rw [e, e']⟩
theorem bar_recv {h : Fin 3} {a b : Dev nD} : barCell a ≠ recvCell h b := fun e => recv_ne_bar h (congrArg Prod.snd e).symm

theorem eq_nxt_iff {c d : Dev nD} : Iff (c = nxt d) (d = prv c) := by revert c d; decide
theorem eq_prv_iff {c d : Dev nD} : Iff (c = prv d) (d = nxt c) := by revert c d; decide

theorem tally_recv (h h' : Fin 3) (d c : Dev nD) : OV h' d (recvCell h c) () = if h = h' ∧ d = prv c then N else 0 := by
  rw [tallyAt_apply]
  refine if_congr ?_ rfl rfl
  rw [recv_eq_iff, eq_nxt_iff]
  exact ⟨fun e => e.1, fun e => ⟨e, rfl⟩⟩
theorem tally_recv_bar (h' : Fin 3) (d c : Dev nD) : OV h' d (barCell c) () = 0 := by
  rw [tallyAt_apply, if_neg fun e => bar_recv e.1]
theorem tally_bar_recv (h : Fin 3) (d c : Dev nD) (k : ℕ) : (tallyAt (barCell d) () k : CellTallies nD τ sig Unit) (recvCell h c) () = 0 := by
  rw [tallyAt_apply, if_neg fun e => bar_recv e.1.symm]
theorem tally_bar_nxt (d c : Dev nD) : (tallyAt (barCell (nxt d)) () 1 : CellTallies nD τ sig Unit) (barCell c) () = if d = prv c then 1 else 0 := by
  rw [tallyAt_apply]
  refine if_congr ?_ rfl rfl
  rw [bar_eq_iff, eq_nxt_iff]
  exact ⟨fun e => e.1, fun e => ⟨e, rfl⟩⟩
theorem tally_bar_prv (d c : Dev nD) : (tallyAt (barCell (prv d)) () 1 : CellTallies nD τ sig Unit) (barCell c) () = if d = nxt c then 1 else 0 := by
  rw [tallyAt_apply]
  refine if_congr ?_ rfl rfl
  rw [bar_eq_iff, eq_prv_iff]
  exact ⟨fun e => e.1, fun e => ⟨e, rfl⟩⟩

theorem owed_bar (d c : Dev nD) : O₀ d (barCell c) () = (if d = prv c then 1 else 0) + (if d = nxt c then 1 else 0) := by
  unfold O₀ O₁ O₂ O₃ O₄
  rw [Pi.add_apply, Finsupp.add_apply, Pi.add_apply, Finsupp.add_apply, Pi.add_apply, Finsupp.add_apply, Pi.add_apply, Finsupp.add_apply,
    Pi.add_apply, Finsupp.add_apply, tally_recv_bar, tally_recv_bar, tally_recv_bar, tally_bar_nxt, tally_bar_prv, Pi.zero_apply, Finsupp.zero_apply]
  omega

theorem owed_recv (h : Fin 3) (d c : Dev nD) : O₀ d (recvCell h c) () = if d = prv c then N else 0 := by
  unfold O₀ O₁ O₂ O₃ O₄
  rw [Pi.add_apply, Finsupp.add_apply, Pi.add_apply, Finsupp.add_apply, Pi.add_apply, Finsupp.add_apply, Pi.add_apply, Finsupp.add_apply,
    Pi.add_apply, Finsupp.add_apply, tally_recv, tally_recv, tally_recv, tally_bar_recv, tally_bar_recv, Pi.zero_apply, Finsupp.zero_apply]
  generalize N = n
  by_cases hd : d = prv c
  · match h with
    | 0 => simp [hd]
    | 1 => simp [hd]
    | 2 => simp [hd]
  · simp [hd]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_recv (h : Fin 3) (c : Dev nD) :
    tallyOn (recvCell h c) (launchCredit (Pipeline.owing O₀) 0 (recvCell h c)) = (tallyAt (recvCell h c) () N : CellTallies nD τ sig Unit) := by
  unfold tallyAt; refine congrArg _ (Finsupp.ext fun u => ?_); cases u
  rw [Pipeline.launchCredit_owing, Finsupp.single_eq_same, Finset.sum_congr rfl fun d _ => owed_recv h d c, Finset.sum_ite_eq' Finset.univ (prv c) fun _ => N,
    if_pos (Finset.mem_univ _)]

omit [FloatOps F] in
theorem creds (c : Dev nD) : (Pipeline.launchCred O₀ c : sProp 𝕄) ⊢ credits c := by
  unfold Pipeline.launchCred credits
  rw [bigSep_univ_at _ (SemLoc.reg barS), launch_bar]
  refine sep_mono_right ?_
  rw [← launch_recv 0, ← launch_recv 1, ← launch_recv 2]
  have h0 : SemLoc.dma (recvQ 0) ∈ Finset.univ.erase (SemLoc.reg barS) := Finset.mem_erase.mpr ⟨recv_ne_bar 0, Finset.mem_univ _⟩
  have h1 : SemLoc.dma (recvQ 1) ∈ (Finset.univ.erase (SemLoc.reg barS)).erase (SemLoc.dma (recvQ 0)) :=
    Finset.mem_erase.mpr ⟨by decide, Finset.mem_erase.mpr ⟨recv_ne_bar 1, Finset.mem_univ _⟩⟩
  have h2 : SemLoc.dma (recvQ 2) ∈ ((Finset.univ.erase (SemLoc.reg barS)).erase (SemLoc.dma (recvQ 0))).erase (SemLoc.dma (recvQ 1)) :=
    Finset.mem_erase.mpr ⟨by decide, Finset.mem_erase.mpr ⟨by decide, Finset.mem_erase.mpr ⟨recv_ne_bar 2, Finset.mem_univ _⟩⟩⟩
  rw [← Finset.insert_erase h0, bigSep_insert (Finset.notMem_erase _ _), ← Finset.insert_erase h1, bigSep_insert (Finset.notMem_erase _ _)]
  exact sep_mono_right (sep_mono_right (bigSep_elim h2))

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  iintro ⟨Hg, Hlev, Hcr, -, HG⟩
  ihave Hc := (creds (F := F) c) $$ Hcr
  imodintro
  unfold start G'
  isplitl
  · isplitl [HG]; · iexact HG
    isplitl [Hc]; · iexact Hc
    isplitl [Hlev]; · iexact Hlev
    iexists (m ((c : Thread nD τ).loc main_v1_1)); unfold gPts; iexact Hg
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; unfold sPts; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨⟨%f, Hr⟩, Hz, HzB⟩
  isplitl [HzB]; · iexact HzB
  isplitl [Hz]; · iexact Hz
  iexists f; unfold sPts; iexact Hr

theorem waits (c : Dev nD) : (levAts L lv : sProp 𝕄) ⊢ Pipeline.cellsWaits cfgs (dats m ρ) () 0 c :=
  Pipeline.cellsWaits_intro cfgs (dats m ρ) () 0 c fun w s t =>
    mayWait c _ _ (by
      have hl : lvS (.dma (((cfgs 0).win w).sem s)) = 0 := by
        fin_cases w <;> fin_cases s <;> decide
      rw [hl]
      rcases t with ⟨_ | _, ht⟩
      · exact above_O₀ c
      · exact above_zero 0)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On four devices, for any float values and from any memory with zero counters, every weakly fair execution ends; then
    each device's arrays are at the computed contents and every semaphore is at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      ihave H2 := (own_pair_emb _ _ _) $$ HX
      icases H2 with ⟨HX, -⟩
      imod (fund_ring m ρ) $$ [HX] with HG
      · unfold ER; iexact HX
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.SortProof

end
-- ==== Proof.Frames.lean ====
/-
# `Frames`: the two frames of the kernel

The kernel and its idealised form are one program, at two kinds of float values. Both frames are the run of `Launch`.
-/
module

public import proofs.«01_k».proof.Defs
public import proofs.«01_k».proof.Proof.Gen.Kernel
public import proofs.«01_k».proof.Proof.Launch

@[expose] public section

noncomputable section

namespace Cert.SortProof

open Idealize.ShloMosaic Idealize.ShloMosaic.TcCoe Idealize.SL.Sem
open Cert.KernelIdeal Cert.KernelIdeal.Gen

variable {F : FTy → Type} [FloatOps F]

/-- For any float values the program ends, leaves its argument as it was and every semaphore at zero. -/
theorem frame_any (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_arg0) = m ((c.tc : Thread nD τ).loc main_arg0))
        ∧ r.2.sem = fun _ => 0 :=
  (θ_run defs _ _).mono (fun _ h => ⟨fun c => (h.1 c (0 : Fin 2)).trans (finalA_x m ρ c), h.2⟩) (run_main m ρ)

/-- The idealised kernel's frame. -/
theorem frame_kernelIdeal : Cert.quiescent_KernelIdeal := fun m ρ _ => frame_any (F := Ideal) m ρ

/-- The two programs' body tables are equal: their one entry is the same body. -/
theorem defs₀_eq : Cert.Kernel.defs₀ (F := F) = Cert.KernelIdeal.defs₀ (F := F) := by
  unfold Cert.Kernel.defs₀ Cert.KernelIdeal.defs₀
  refine congrArg Defs.onTc (funext fun ℓ => funext fun a => ?_)
  obtain ⟨ℓ, hℓ⟩ := ℓ
  obtain rfl : ℓ = 0 := by omega
  rfl

/-- The two programs' tables are equal. -/
theorem defs_eq : Cert.Kernel.defs (F := F) = Cert.KernelIdeal.defs (F := F) :=
  congrArg (Pipeline.defs (Cert.KernelIdeal.pcfgs (F := F))) defs₀_eq

/-- The kernel's frame at its own floats: its text is the idealised kernel's. -/
theorem frame_kernel : Cert.quiescent_Kernel (hKernel := Cert.Kernel.Gen.facts) := by
  intro m ρ _
  rw [defs_eq]
  exact frame_any (F := Bits) m ρ

end Cert.SortProof

end
-- ==== Proof.Net.lean ====
/-
# `Net`: the sorting network on sequences

The kernel's comparisons, as a network on sequences `ℕ → α` over any linear order: its stages, that it reorders the
first 16384 entries, and that it sorts them. That it sorts is proved for Boolean sequences, where a sequence that rises and falls
is an interval, and carried to `α` by comparing with every threshold.
-/
module

public import Mathlib.Data.List.Sort
public import Mathlib.Data.Fintype.Perm
public import Mathlib.Tactic.Ring
public import Mathlib.Tactic.NormNum
public import Mathlib.Order.Lattice

@[expose] public section

namespace Cert.SortProof.Net

variable {α β : Type} [LinearOrder α] [LinearOrder β]

/-! ## The stages -/

/-- The entry that entry `i` is compared with at distance `2 ^ s`. -/
def mate (s i : ℕ) : ℕ := if i / 2 ^ s % 2 = 0 then i + 2 ^ s else i - 2 ^ s

/-- One stage: each pair at distance `2 ^ s` put in order, upwards where `up` holds and downwards elsewhere. -/
def step (s : ℕ) (up : ℕ → Bool) (f : ℕ → α) (i : ℕ) : α :=
  if decide (i / 2 ^ s % 2 = 0) = up i then min (f i) (f (mate s i)) else max (f i) (f (mate s i))

/-- The first `k` stages of a merge of blocks of `2 ^ S`: distances `2 ^ (S - 1)`, `2 ^ (S - 2)`, … -/
def stages (S : ℕ) (up : ℕ → Bool) : ℕ → (ℕ → α) → ℕ → α
  | 0, f => f
  | k + 1, f => step (S - 1 - k) up (stages S up k f)

/-- A merge's first stage may be taken first. -/
theorem stages_succ (S : ℕ) (up : ℕ → Bool) (k : ℕ) (f : ℕ → α) :
    stages (S + 1) up (k + 1) f = stages S up k (step S up f) := by
  induction k with
  | zero => rfl
  | succ k ih =>
    show step (S + 1 - 1 - (k + 1)) up (stages (S + 1) up (k + 1) f) = step (S - 1 - k) up _
    rw [ih, show S + 1 - 1 - (k + 1) = S - 1 - k by omega]

/-- The direction of the local sorts' phase `p`: by bit `p` of the row in the device's block, turned round on odd devices. -/
def upL (p i : ℕ) : Bool := xor (decide (i % 4096 / 2 ^ p % 2 = 0)) (decide (i / 4096 % 2 = 1))

/-- The first `p` phases of the local sorts. -/
def phases : ℕ → (ℕ → α) → ℕ → α
  | 0, f => f
  | p + 1, f => stages (p + 1) (upL (p + 1)) (p + 1) (phases p f)

/-- The direction of the two first merges: the upper half of the rows downwards. -/
def upH (i : ℕ) : Bool := decide (i / 8192 % 2 = 0)

/-- Upwards everywhere. -/
def upT (_ : ℕ) : Bool := true

/-- The whole network: the local sorts, the two first merges, the exchange across the halves, the two last merges. -/
def net (f : ℕ → α) : ℕ → α :=
  stages 13 upT 13 (step 13 upT (stages 13 upH 13 (phases 12 f)))

/-! ## A monotone map may be applied before or after -/

theorem step_comp {φ : α → β} (hφ : Monotone φ) (s : ℕ) (up : ℕ → Bool) (f : ℕ → α) :
    step s up (φ ∘ f) = φ ∘ step s up f := by
  funext i
  show step s up (φ ∘ f) i = φ (step s up f i)
  unfold step
  split
  · exact (hφ.map_min).symm
  · exact (hφ.map_max).symm

theorem stages_comp {φ : α → β} (hφ : Monotone φ) (S : ℕ) (up : ℕ → Bool) (k : ℕ) (f : ℕ → α) :
    stages S up k (φ ∘ f) = φ ∘ stages S up k f := by
  induction k with
  | zero => rfl
  | succ k ih =>
    show step _ up (stages S up k (φ ∘ f)) = _
    rw [ih, step_comp hφ]
    rfl

theorem phases_comp {φ : α → β} (hφ : Monotone φ) (p : ℕ) (f : ℕ → α) : phases p (φ ∘ f) = φ ∘ phases p f := by
  induction p with
  | zero => rfl
  | succ p ih =>
    show stages _ _ _ (phases p (φ ∘ f)) = _
    rw [ih, stages_comp hφ]
    rfl

theorem net_comp {φ : α → β} (hφ : Monotone φ) (f : ℕ → α) : net (φ ∘ f) = φ ∘ net f := by
  unfold net
  rw [phases_comp hφ, stages_comp hφ, step_comp hφ, stages_comp hφ]

/-! ## Pairs and blocks -/

/-- The two members of a pair, by the block of `2 ^ (s + 1)` they lie in. -/
theorem pair_low (s k i : ℕ) (hi : i < 2 ^ s) :
    (k * 2 ^ (s + 1) + i) / 2 ^ s % 2 = 0 ∧ mate s (k * 2 ^ (s + 1) + i) = k * 2 ^ (s + 1) + (2 ^ s + i) := by
  have h0 : 0 < 2 ^ s := Nat.two_pow_pos s
  have hd : (k * 2 ^ (s + 1) + i) / 2 ^ s = 2 * k := by
    rw [pow_succ, show k * (2 ^ s * 2) + i = i + 2 ^ s * (2 * k) by ring, Nat.add_mul_div_left _ _ h0, Nat.div_eq_of_lt hi]
    omega
  have h1 : (k * 2 ^ (s + 1) + i) / 2 ^ s % 2 = 0 := by rw [hd]; omega
  refine ⟨h1, ?_⟩
  unfold mate
  rw [if_pos h1]
  omega

theorem pair_high (s k i : ℕ) (hi : i < 2 ^ s) :
    (k * 2 ^ (s + 1) + (2 ^ s + i)) / 2 ^ s % 2 = 1 ∧ mate s (k * 2 ^ (s + 1) + (2 ^ s + i)) = k * 2 ^ (s + 1) + i := by
  have h0 : 0 < 2 ^ s := Nat.two_pow_pos s
  have hd : (k * 2 ^ (s + 1) + (2 ^ s + i)) / 2 ^ s = 2 * k + 1 := by
    rw [pow_succ, show k * (2 ^ s * 2) + (2 ^ s + i) = i + 2 ^ s * (2 * k + 1) by ring, Nat.add_mul_div_left _ _ h0,
      Nat.div_eq_of_lt hi]
    omega
  have h1 : (k * 2 ^ (s + 1) + (2 ^ s + i)) / 2 ^ s % 2 = 1 := by rw [hd]; omega
  refine ⟨h1, ?_⟩
  unfold mate
  rw [if_neg (by omega)]
  omega

/-- Every entry is the low or the high member of a pair. -/
theorem pair_cases (s i : ℕ) : ∃ k j, j < 2 ^ s ∧ (i = k * 2 ^ (s + 1) + j ∨ i = k * 2 ^ (s + 1) + (2 ^ s + j)) := by
  have h0 : 0 < 2 ^ s := Nat.two_pow_pos s
  have hd := Nat.div_add_mod i (2 ^ (s + 1))
  have hm := Nat.mod_lt i (Nat.two_pow_pos (s + 1))
  rw [mul_comm] at hd
  have hp : 2 ^ (s + 1) = 2 ^ s * 2 := pow_succ 2 s
  by_cases h : i % 2 ^ (s + 1) < 2 ^ s
  · exact ⟨i / 2 ^ (s + 1), i % 2 ^ (s + 1), h, .inl hd.symm⟩
  · exact ⟨i / 2 ^ (s + 1), i % 2 ^ (s + 1) - 2 ^ s, by omega, .inr (by omega)⟩

/-- A pair lies in one block of `2 ^ (s + 1)`; -/
theorem mate_div_succ (s i : ℕ) : mate s i / 2 ^ (s + 1) = i / 2 ^ (s + 1) := by
  have hp : 2 ^ (s + 1) = 2 ^ s * 2 := pow_succ 2 s
  have h0 : 0 < 2 ^ (s + 1) := Nat.two_pow_pos _
  have key : ∀ k j, j < 2 ^ (s + 1) → (k * 2 ^ (s + 1) + j) / 2 ^ (s + 1) = k := by
    intro k j hj
    rw [add_comm, mul_comm, Nat.add_mul_div_left _ _ h0, Nat.div_eq_of_lt hj]
    omega
  obtain ⟨k, j, hj, rfl | rfl⟩ := pair_cases s i
  · rw [(pair_low s k j hj).2, key _ _ (by omega), key _ _ (by omega)]
  · rw [(pair_high s k j hj).2, key _ _ (by omega), key _ _ (by omega)]

/-- Two entries of one block lie in one larger block. -/
theorem div_coarse {s S i j : ℕ} (h : s ≤ S) (hd : i / 2 ^ s = j / 2 ^ s) : i / 2 ^ S = j / 2 ^ S := by
  obtain ⟨d, rfl⟩ := Nat.exists_eq_add_of_le h
  rw [pow_add, ← Nat.div_div_eq_div_mul, ← Nat.div_div_eq_div_mul, hd]

theorem mate_div {s S : ℕ} (h : s < S) (i : ℕ) : mate s i / 2 ^ S = i / 2 ^ S :=
  div_coarse (Nat.succ_le_of_lt h) (mate_div_succ s i)

/-- A pair's other member's other member. -/
theorem mate_mate (s i : ℕ) : mate s (mate s i) = i := by
  obtain ⟨k, j, hj, rfl | rfl⟩ := pair_cases s i
  · rw [(pair_low s k j hj).2, (pair_high s k j hj).2]
  · rw [(pair_high s k j hj).2, (pair_low s k j hj).2]

/-- Exactly one member of a pair is the low one. -/
theorem mate_low (s i : ℕ) : decide (mate s i / 2 ^ s % 2 = 0) = !decide (i / 2 ^ s % 2 = 0) := by
  obtain ⟨k, j, hj, rfl | rfl⟩ := pair_cases s i
  · rw [(pair_low s k j hj).2, (pair_low s k j hj).1, (pair_high s k j hj).1]; rfl
  · rw [(pair_high s k j hj).2, (pair_low s k j hj).1, (pair_high s k j hj).1]; rfl

/-- The direction is one on each block of `2 ^ S`. -/
def Coarse (S : ℕ) (up : ℕ → Bool) : Prop := ∀ i j, i / 2 ^ S = j / 2 ^ S → up i = up j

/-- Then it is one on smaller blocks. -/
theorem Coarse.mono {s S : ℕ} {up : ℕ → Bool} (h : Coarse S up) (hs : s ≤ S) : Coarse s up :=
  fun i j hd => h i j (div_coarse hs hd)

theorem coarse_upT (S : ℕ) : Coarse S upT := fun _ _ _ => rfl

theorem coarse_upH : Coarse 13 upH := fun i j h => by
  unfold upH
  norm_num at h
  rw [h]

/-- The local direction by the row of the whole array. -/
theorem upL_eq {p : ℕ} (hp : p < 12) (i : ℕ) : upL p i = xor (decide (i / 2 ^ p % 2 = 0)) (decide (i / 4096 % 2 = 1)) := by
  unfold upL
  have : i % 4096 / 2 ^ p % 2 = i / 2 ^ p % 2 := by
    have e : (4096 : ℕ) = 2 ^ p * 2 ^ (12 - p) := by rw [← pow_add, show p + (12 - p) = 12 by omega]; norm_num
    rw [e, Nat.mod_mul_right_div_self]
    refine Nat.mod_mod_of_dvd _ ?_
    exact dvd_pow_self 2 (by omega)
  rw [this]

theorem upL_twelve (i : ℕ) : upL 12 i = !decide (i / 4096 % 2 = 1) := by
  unfold upL
  have : i % 4096 / 2 ^ 12 = 0 := Nat.div_eq_of_lt (by have := Nat.mod_lt i (show 0 < 4096 by norm_num); norm_num; exact this)
  rw [this]
  simp

theorem coarse_upL {p : ℕ} (hp : p ≤ 12) : Coarse p (upL p) := fun i j h => by
  have h12 : i / 4096 = j / 4096 := by
    have := div_coarse hp h
    norm_num at this
    exact this
  rcases Nat.lt_or_eq_of_le hp with hp | rfl
  · rw [upL_eq hp, upL_eq hp, h, h12]
  · rw [upL_twelve, upL_twelve, h12]

/-! ## The network reorders -/

/-- The first `N` entries of `g` are those of `f` in another order. -/
def Reorders (N : ℕ) (f g : ℕ → α) : Prop := ∃ σ : Equiv.Perm (Fin N), ∀ i : Fin N, g i = f (σ i)

theorem Reorders.refl (N : ℕ) (f : ℕ → α) : Reorders N f f := ⟨Equiv.refl _, fun _ => rfl⟩

theorem Reorders.trans {N : ℕ} {f g h : ℕ → α} : Reorders N f g → Reorders N g h → Reorders N f h :=
  fun ⟨σ, hσ⟩ ⟨τ, hτ⟩ => ⟨τ.trans σ, fun i => by rw [hτ i, hσ (τ i)]; rfl⟩

/-- A stage reorders the first `2 ^ S` entries. -/
theorem reorders_step {s S : ℕ} (hs : s < S) {up : ℕ → Bool} (hup : Coarse (s + 1) up) (f : ℕ → α) :
    Reorders (2 ^ S) f (step s up f) := by
  classical
  have hlt : ∀ i < 2 ^ S, mate s i < 2 ^ S := fun i hi => by
    have h := mate_div hs i
    rw [Nat.div_eq_of_lt hi] at h
    exact (Nat.div_eq_zero_iff_lt (Nat.two_pow_pos S)).1 h
  have hinv : Function.Involutive fun i : Fin (2 ^ S) => if step s up f i = f i then i else ⟨mate s i, hlt i i.isLt⟩ := by
    intro i
    by_cases h : step s up f i = f i
    · simp [h]
    · have hm : ¬ step s up f (mate s i) = f (mate s i) := by
        intro h'
        apply h
        have hu : up (mate s i) = up i := hup _ _ (mate_div_succ s i)
        unfold step at h' ⊢
        rw [mate_mate, mate_low, hu] at h'
        by_cases hd : decide (i.val / 2 ^ s % 2 = 0) = up i
        · rw [if_pos hd]
          rw [if_neg (by rw [hd]; cases up i <;> simp)] at h'
          exact min_eq_left (max_eq_left_iff.1 h')
        · rw [if_neg hd]
          rw [if_pos (by revert hd; cases up i <;> cases decide (i.val / 2 ^ s % 2 = 0) <;> simp)] at h'
          exact max_eq_left (min_eq_left_iff.1 h')
      simp only [if_neg h, hm, if_false]
      exact Fin.ext (mate_mate s i)
  refine ⟨hinv.toPerm _, fun i => ?_⟩
  show _ = f ((if step s up f i = f i then i else ⟨mate s i, hlt i i.isLt⟩ : Fin (2 ^ S)) : ℕ)
  by_cases h : step s up f i = f i
  · rw [if_pos h, h]
  · rw [if_neg h]
    show step s up f i = f (mate s i)
    unfold step at h ⊢
    split at h
    · rename_i hd
      rw [if_pos hd]
      exact (min_choice (f i) (f (mate s i))).resolve_left h
    · rename_i hd
      rw [if_neg hd]
      exact (max_choice (f i) (f (mate s i))).resolve_left h

/-- So does a merge, -/
theorem reorders_stages {S T : ℕ} (hST : S ≤ T) {up : ℕ → Bool} (hup : Coarse S up) (k : ℕ) (hk : k ≤ S) (f : ℕ → α) :
    Reorders (2 ^ T) f (stages S up k f) := by
  induction k with
  | zero => exact .refl _ _
  | succ k ih => exact (ih (by omega)).trans (reorders_step (by omega) (hup.mono (by omega)) _)

/-- the local sorts, -/
theorem reorders_phases (p : ℕ) (hp : p ≤ 12) (f : ℕ → α) : Reorders (2 ^ 14) f (phases p f) := by
  induction p with
  | zero => exact .refl _ _
  | succ p ih => exact (ih (by omega)).trans (reorders_stages (by omega) (coarse_upL hp) _ le_rfl _)

/-- and the whole network. -/
theorem reorders_net (f : ℕ → α) : Reorders (2 ^ 14) f (net f) :=
  (((reorders_phases 12 le_rfl f).trans (reorders_stages (by norm_num) coarse_upH 13 le_rfl _)).trans
    (reorders_step (by norm_num) (coarse_upT _) _)).trans (reorders_stages (by norm_num) (coarse_upT _) 13 le_rfl _)

/-! ## Boolean sequences -/

/-- On the `n` entries from `b` the sequence is one value on an interval and the other outside it. -/
def Bitonic (b n : ℕ) (f : ℕ → Bool) : Prop :=
  ∃ v p q, p ≤ q ∧ q ≤ n ∧ ∀ i < n, f (b + i) = xor v (decide (p ≤ i ∧ i < q))

/-- On the `n` entries from `b` the sequence is sorted, upwards if `u` and downwards if not. -/
def Sorted (u : Bool) (b n : ℕ) (f : ℕ → Bool) : Prop :=
  ∃ r, r ≤ n ∧ ∀ i < n, f (b + i) = xor u (decide (i < r))

/-- On the `n` entries from `b` the sequence is the constant `v`. -/
def Const (v : Bool) (b n : ℕ) (f : ℕ → Bool) : Prop := ∀ i < n, f (b + i) = v

/-- Sorted one way and then sorted the other way is bitonic. -/
theorem bitonic_of_sorted {u : Bool} {b n : ℕ} {f : ℕ → Bool} (h1 : Sorted u b n f) (h2 : Sorted (!u) (b + n) n f) :
    Bitonic b (n + n) f := by
  obtain ⟨r1, hr1, h1⟩ := h1
  obtain ⟨r2, hr2, h2⟩ := h2
  refine ⟨!u, r1, n + r2, by omega, by omega, fun i hi => ?_⟩
  by_cases h : i < n
  · rw [h1 i h]
    by_cases hr : i < r1
    · have : ¬ (r1 ≤ i ∧ i < n + r2) := by omega
      simp [hr, this]
    · have : r1 ≤ i ∧ i < n + r2 := by omega
      simp [hr, this]
  · have e := h2 (i - n) (by omega)
    rw [show b + n + (i - n) = b + i by omega] at e
    rw [e]
    by_cases hr : i - n < r2
    · have : r1 ≤ i ∧ i < n + r2 := by omega
      simp [hr, this]
    · have : ¬ (r1 ≤ i ∧ i < n + r2) := by omega
      simp [hr, this]

/-- The exchange of a bitonic block's halves leaves one half constant and the other bitonic. -/
theorem exchange {n : ℕ} {x : ℕ → Bool} (hx : Bitonic 0 (n + n) x) :
    (Const false 0 n (fun i => x i && x (n + i)) ∧ Bitonic 0 n (fun i => x i || x (n + i))) ∨
    (Const true 0 n (fun i => x i || x (n + i)) ∧ Bitonic 0 n (fun i => x i && x (n + i))) := by
  obtain ⟨v, p, q, hpq, hq, hx⟩ := hx
  simp only [Nat.zero_add] at hx
  have hl : ∀ i < n, x i = xor v (decide (p ≤ i ∧ i < q)) := fun i hi => hx i (by omega)
  have hh : ∀ i < n, x (n + i) = xor v (decide (p ≤ n + i ∧ n + i < q)) := fun i hi => hx (n + i) (by omega)
  unfold Const Bitonic
  simp only [Nat.zero_add]
  cases v
  · by_cases hA : q ≤ n
    · refine .inl ⟨fun i hi => ?_, false, p, q, hpq, hA, fun i hi => ?_⟩ <;> rw [hl i hi, hh i hi] <;>
        simp only [Bool.false_xor, ← Bool.decide_and, ← Bool.decide_or, decide_eq_false_iff_not, decide_eq_decide] <;> omega
    by_cases hB : n ≤ p
    · refine .inl ⟨fun i hi => ?_, false, p - n, q - n, by omega, by omega, fun i hi => ?_⟩ <;> rw [hl i hi, hh i hi] <;>
        simp only [Bool.false_xor, ← Bool.decide_and, ← Bool.decide_or, decide_eq_false_iff_not, decide_eq_decide] <;> omega
    by_cases hC : q - n ≤ p
    · refine .inl ⟨fun i hi => ?_, true, q - n, p, by omega, by omega, fun i hi => ?_⟩ <;> rw [hl i hi, hh i hi] <;>
        simp only [Bool.false_xor, Bool.true_xor, ← decide_not, ← Bool.decide_and, ← Bool.decide_or, decide_eq_false_iff_not, decide_eq_decide] <;> omega
    · refine .inr ⟨fun i hi => ?_, false, p, q - n, by omega, by omega, fun i hi => ?_⟩ <;> rw [hl i hi, hh i hi] <;>
        simp only [Bool.false_xor, Bool.true_xor, ← decide_not, ← Bool.decide_and, ← Bool.decide_or, decide_eq_true_eq, decide_eq_decide] <;> omega
  · by_cases hA : q ≤ n
    · refine .inr ⟨fun i hi => ?_, true, p, q, hpq, hA, fun i hi => ?_⟩ <;> rw [hl i hi, hh i hi] <;>
        simp only [Bool.true_xor, ← decide_not, ← Bool.decide_and, ← Bool.decide_or, decide_eq_true_eq, decide_eq_decide] <;> omega
    by_cases hB : n ≤ p
    · refine .inr ⟨fun i hi => ?_, true, p - n, q - n, by omega, by omega, fun i hi => ?_⟩ <;> rw [hl i hi, hh i hi] <;>
        simp only [Bool.true_xor, ← decide_not, ← Bool.decide_and, ← Bool.decide_or, decide_eq_true_eq, decide_eq_decide] <;> omega
    by_cases hC : q - n ≤ p
    · refine .inr ⟨fun i hi => ?_, false, q - n, p, by omega, by omega, fun i hi => ?_⟩ <;> rw [hl i hi, hh i hi] <;>
        simp only [Bool.false_xor, Bool.true_xor, ← decide_not, ← Bool.decide_and, ← Bool.decide_or, decide_eq_true_eq, decide_eq_decide] <;> omega
    · refine .inl ⟨fun i hi => ?_, true, p, q - n, by omega, by omega, fun i hi => ?_⟩ <;> rw [hl i hi, hh i hi] <;>
        simp only [Bool.false_xor, Bool.true_xor, ← decide_not, ← Bool.decide_and, ← Bool.decide_or, decide_eq_false_iff_not, decide_eq_decide] <;> omega

/-- A stage at the two members of a pair. -/
theorem step_low {s k : ℕ} {up : ℕ → Bool} (f : ℕ → Bool) {i : ℕ} (hi : i < 2 ^ s) :
    step s up f (k * 2 ^ (s + 1) + i) =
      if up (k * 2 ^ (s + 1) + i) then f (k * 2 ^ (s + 1) + i) && f (k * 2 ^ (s + 1) + (2 ^ s + i))
      else f (k * 2 ^ (s + 1) + i) || f (k * 2 ^ (s + 1) + (2 ^ s + i)) := by
  unfold step
  rw [(pair_low s k i hi).1, (pair_low s k i hi).2]
  cases up (k * 2 ^ (s + 1) + i) <;> cases f (k * 2 ^ (s + 1) + i) <;> cases f (k * 2 ^ (s + 1) + (2 ^ s + i)) <;> rfl

theorem step_high {s k : ℕ} {up : ℕ → Bool} (f : ℕ → Bool) {i : ℕ} (hi : i < 2 ^ s) :
    step s up f (k * 2 ^ (s + 1) + (2 ^ s + i)) =
      if up (k * 2 ^ (s + 1) + (2 ^ s + i)) then f (k * 2 ^ (s + 1) + i) || f (k * 2 ^ (s + 1) + (2 ^ s + i))
      else f (k * 2 ^ (s + 1) + i) && f (k * 2 ^ (s + 1) + (2 ^ s + i)) := by
  unfold step
  rw [(pair_high s k i hi).1, (pair_high s k i hi).2]
  cases up (k * 2 ^ (s + 1) + (2 ^ s + i)) <;> cases f (k * 2 ^ (s + 1) + i) <;> cases f (k * 2 ^ (s + 1) + (2 ^ s + i)) <;> rfl

/-- The place of an entry of a block. -/
theorem block_div (k S i : ℕ) (hi : i < 2 ^ S) : (k * 2 ^ S + i) / 2 ^ S = k := by
  rw [add_comm, mul_comm, Nat.add_mul_div_left _ _ (Nat.two_pow_pos S), Nat.div_eq_of_lt hi]
  omega

/-- A constant block stays constant, -/
theorem const_step {s S k : ℕ} (hs : s < S) {v : Bool} {up : ℕ → Bool} {f : ℕ → Bool} (h : Const v (k * 2 ^ S) (2 ^ S) f) :
    Const v (k * 2 ^ S) (2 ^ S) (step s up f) := by
  intro i hi
  have hm := mate_div hs (k * 2 ^ S + i)
  rw [block_div k S i hi] at hm
  have hd := Nat.div_add_mod (mate s (k * 2 ^ S + i)) (2 ^ S)
  rw [hm, mul_comm] at hd
  have e1 := h _ (Nat.mod_lt (mate s (k * 2 ^ S + i)) (Nat.two_pow_pos S))
  rw [hd] at e1
  unfold step
  rw [h i hi, e1]
  split <;> simp

/-- through a merge too. -/
theorem const_stages {S k : ℕ} {v : Bool} {up : ℕ → Bool} {f : ℕ → Bool} (h : Const v (k * 2 ^ S) (2 ^ S) f) (j : ℕ) (hj : j ≤ S) :
    Const v (k * 2 ^ S) (2 ^ S) (stages S up j f) := by
  induction j with
  | zero => exact h
  | succ j ih => exact const_step (by omega) (ih (by omega))

/-- A merge sorts a bitonic block. -/
theorem merge_sorted (S : ℕ) : ∀ (k : ℕ) (f : ℕ → Bool) (u : Bool) (up : ℕ → Bool), (∀ i < 2 ^ S, up (k * 2 ^ S + i) = u) →
    Bitonic (k * 2 ^ S) (2 ^ S) f → Sorted u (k * 2 ^ S) (2 ^ S) (stages S up S f) := by
  induction S with
  | zero =>
    intro k f u up _ _
    refine ⟨if f (k * 2 ^ 0) = u then 0 else 1, by split <;> norm_num, fun i hi => ?_⟩
    obtain rfl : i = 0 := by simpa using hi
    show f (k * 2 ^ 0 + 0) = _
    rw [Nat.add_zero]
    cases f (k * 2 ^ 0) <;> cases u <;> rfl
  | succ S ih =>
    intro k f u up hup hf
    rw [stages_succ]
    have hp : 2 ^ (S + 1) = 2 ^ S + 2 ^ S := by rw [pow_succ]; omega
    have e0 : 2 * k * 2 ^ S = k * 2 ^ (S + 1) := by rw [pow_succ]; ring
    have e1 : (2 * k + 1) * 2 ^ S = k * 2 ^ (S + 1) + 2 ^ S := by rw [pow_succ]; ring
    have hu0 : ∀ i < 2 ^ S, up (2 * k * 2 ^ S + i) = u := fun i hi => by rw [e0]; exact hup i (by omega)
    have hu1 : ∀ i < 2 ^ S, up ((2 * k + 1) * 2 ^ S + i) = u := fun i hi => by
      rw [e1, add_assoc]; exact hup _ (by omega)
    have hx : Bitonic 0 (2 ^ S + 2 ^ S) (fun i => f (k * 2 ^ (S + 1) + i)) := by
      obtain ⟨v, p, q, h1, h2, h3⟩ := hf
      exact ⟨v, p, q, h1, by omega, fun i hi => by simpa using h3 i (by omega)⟩
    have lo : ∀ i < 2 ^ S, step S up f (2 * k * 2 ^ S + i) =
        if u then f (k * 2 ^ (S + 1) + i) && f (k * 2 ^ (S + 1) + (2 ^ S + i))
        else f (k * 2 ^ (S + 1) + i) || f (k * 2 ^ (S + 1) + (2 ^ S + i)) := fun i hi => by
      rw [e0, step_low f hi, hup i (by omega)]
    have hi' : ∀ i < 2 ^ S, step S up f ((2 * k + 1) * 2 ^ S + i) =
        if u then f (k * 2 ^ (S + 1) + i) || f (k * 2 ^ (S + 1) + (2 ^ S + i))
        else f (k * 2 ^ (S + 1) + i) && f (k * 2 ^ (S + 1) + (2 ^ S + i)) := fun i hi => by
      rw [e1, add_assoc, step_high f hi, hup _ (by omega)]
    have two : (Const (!u) (2 * k * 2 ^ S) (2 ^ S) (step S up f) ∧ Bitonic ((2 * k + 1) * 2 ^ S) (2 ^ S) (step S up f)) ∨
        (Const u ((2 * k + 1) * 2 ^ S) (2 ^ S) (step S up f) ∧ Bitonic (2 * k * 2 ^ S) (2 ^ S) (step S up f)) := by
      have carry : ∀ (b : ℕ) (g h : ℕ → Bool), (∀ i < 2 ^ S, g (b + i) = h i) → Bitonic 0 (2 ^ S) h → Bitonic b (2 ^ S) g := by
        rintro b g h e ⟨v, p, q, h1, h2, h3⟩
        exact ⟨v, p, q, h1, h2, fun i hi => by rw [e i hi]; simpa using h3 i hi⟩
      rcases exchange hx with ⟨hc, hb⟩ | ⟨hc, hb⟩ <;> cases u
      · refine .inr ⟨fun i hi => ?_, carry _ _ _ (fun i hi => ?_) hb⟩
        · rw [hi' i hi]; simpa using hc i hi
        · rw [lo i hi]; rfl
      · refine .inl ⟨fun i hi => ?_, carry _ _ _ (fun i hi => ?_) hb⟩
        · rw [lo i hi]; simpa using hc i hi
        · rw [hi' i hi]; rfl
      · refine .inl ⟨fun i hi => ?_, carry _ _ _ (fun i hi => ?_) hb⟩
        · rw [lo i hi]; simpa using hc i hi
        · rw [hi' i hi]; rfl
      · refine .inr ⟨fun i hi => ?_, carry _ _ _ (fun i hi => ?_) hb⟩
        · rw [hi' i hi]; simpa using hc i hi
        · rw [lo i hi]; rfl
    rcases two with ⟨hc, hb⟩ | ⟨hc, hb⟩
    · obtain ⟨r, hr, h⟩ := ih (2 * k + 1) _ u up hu1 hb
      have hc := const_stages (up := up) hc S le_rfl
      refine ⟨2 ^ S + r, by omega, fun i hi => ?_⟩
      by_cases hl : i < 2 ^ S
      · have := hc i hl
        rw [e0] at this
        rw [this, show decide (i < 2 ^ S + r) = true from decide_eq_true (by omega)]
        cases u <;> rfl
      · have := h (i - 2 ^ S) (by omega)
        rw [e1, show k * 2 ^ (S + 1) + 2 ^ S + (i - 2 ^ S) = k * 2 ^ (S + 1) + i by omega] at this
        rw [this]
        congr 1
        exact decide_eq_decide.2 (by omega)
    · obtain ⟨r, hr, h⟩ := ih (2 * k) _ u up hu0 hb
      have hc := const_stages (up := up) hc S le_rfl
      refine ⟨r, by omega, fun i hi => ?_⟩
      by_cases hl : i < 2 ^ S
      · have := h i hl
        rw [e0] at this
        exact this
      · have := hc (i - 2 ^ S) (by omega)
        rw [e1, show k * 2 ^ (S + 1) + 2 ^ S + (i - 2 ^ S) = k * 2 ^ (S + 1) + i by omega] at this
        rw [this, show decide (i < r) = false from decide_eq_false (by omega)]
        cases u <;> rfl

/-- Two neighbouring blocks sorted opposite ways are merged into one sorted block. -/
theorem merge_pair {S k : ℕ} {f : ℕ → Bool} {u w : Bool} {up : ℕ → Bool} (hup : ∀ i < 2 ^ (S + 1), up (k * 2 ^ (S + 1) + i) = w)
    (h1 : Sorted u (2 * k * 2 ^ S) (2 ^ S) f) (h2 : Sorted (!u) ((2 * k + 1) * 2 ^ S) (2 ^ S) f) :
    Sorted w (k * 2 ^ (S + 1)) (2 ^ (S + 1)) (stages (S + 1) up (S + 1) f) := by
  refine merge_sorted (S + 1) k f w up hup ?_
  have hp : 2 ^ (S + 1) = 2 ^ S + 2 ^ S := by rw [pow_succ]; omega
  have e0 : 2 * k * 2 ^ S = k * 2 ^ (S + 1) := by rw [pow_succ]; ring
  have e1 : (2 * k + 1) * 2 ^ S = k * 2 ^ (S + 1) + 2 ^ S := by rw [pow_succ]; ring
  rw [e0] at h1
  rw [e1] at h2
  have := bitonic_of_sorted h1 h2
  rwa [← hp] at this

/-- After `p` phases every block of `2 ^ p` is sorted in its direction. -/
theorem phases_sorted (p : ℕ) (hp : p ≤ 12) (f : ℕ → Bool) (k : ℕ) :
    Sorted (upL p (k * 2 ^ p)) (k * 2 ^ p) (2 ^ p) (phases p f) := by
  induction p generalizing k with
  | zero =>
    refine ⟨if f (k * 2 ^ 0) = upL 0 (k * 2 ^ 0) then 0 else 1, by split <;> norm_num, fun i hi => ?_⟩
    rw [show i = 0 by simpa using hi]
    show f (k * 2 ^ 0 + 0) = _
    rw [Nat.add_zero]
    cases f (k * 2 ^ 0) <;> cases upL 0 (k * 2 ^ 0) <;> rfl
  | succ p ih =>
    have h1 := ih (by omega) (2 * k)
    have h2 := ih (by omega) (2 * k + 1)
    have e0 : 2 * k * 2 ^ p = k * 2 ^ (p + 1) := by rw [pow_succ]; ring
    have e1 : (2 * k + 1) * 2 ^ p = k * 2 ^ (p + 1) + 2 ^ p := by rw [pow_succ]; ring
    have hpos := Nat.two_pow_pos p
    have hps : 2 ^ (p + 1) = 2 ^ p + 2 ^ p := by rw [pow_succ]; omega
    have hb : (2 * k * 2 ^ p) / 2 ^ (p + 1) = ((2 * k + 1) * 2 ^ p) / 2 ^ (p + 1) := by
      rw [e1, block_div k (p + 1) _ (by omega), e0, Nat.mul_div_cancel _ (Nat.two_pow_pos _)]
    have h12 : 2 * k * 2 ^ p / 4096 = (2 * k + 1) * 2 ^ p / 4096 := by
      have := div_coarse (S := 12) (by omega : p + 1 ≤ 12) hb
      norm_num at this
      exact this
    have hu : upL p ((2 * k + 1) * 2 ^ p) = !upL p (2 * k * 2 ^ p) := by
      rw [upL_eq (by omega), upL_eq (by omega), h12, Nat.mul_div_cancel _ hpos, Nat.mul_div_cancel _ hpos,
        show 2 * k % 2 = 0 by omega, show (2 * k + 1) % 2 = 1 by omega]
      cases decide ((2 * k + 1) * 2 ^ p / 4096 % 2 = 1) <;> rfl
    rw [hu] at h2
    refine merge_pair (fun i hi => ?_) h1 h2
    refine coarse_upL hp _ _ ?_
    rw [block_div k _ i hi, Nat.mul_div_cancel _ (Nat.two_pow_pos _)]

/-- The network sorts Boolean sequences. -/
theorem net_sorted_bool (f : ℕ → Bool) : Sorted true 0 (2 ^ 14) (net f) := by
  have hH : ∀ k : ℕ, Sorted (decide (k % 2 = 0)) (k * 2 ^ 13) (2 ^ 13) (stages 13 upH 13 (phases 12 f)) := by
    intro k
    have h1 := phases_sorted 12 le_rfl f (2 * k)
    have h2 := phases_sorted 12 le_rfl f (2 * k + 1)
    rw [upL_twelve] at h1 h2
    have a1 : (2 * k * 2 ^ 12) / 4096 % 2 = 0 := by norm_num
    have a2 : ((2 * k + 1) * 2 ^ 12) / 4096 % 2 = 1 := by norm_num
    rw [a1] at h1
    rw [a2] at h2
    refine merge_pair (S := 12) (fun i hi => ?_) h1 h2
    unfold upH
    have : (k * 2 ^ (12 + 1) + i) / 8192 = k := by
      have := block_div k 13 i hi
      norm_num at this ⊢
      exact this
    rw [this]
  have h := merge_pair (S := 13) (k := 0) (u := true) (w := true) (up := upT) (fun _ _ => rfl) (by simpa using hH 0) (by simpa using hH 1)
  rw [stages_succ] at h
  simpa [net] using h

/-- The network sorts. -/
theorem net_mono (f : ℕ → α) {i j : ℕ} (hij : i ≤ j) (hj : j < 2 ^ 14) : net f i ≤ net f j := by
  have hφ : Monotone fun x : α => decide (net f i ≤ x) := fun x y hxy => by
    show decide _ ≤ decide _
    by_cases h : net f i ≤ x
    · rw [decide_eq_true h, decide_eq_true (h.trans hxy)]
    · rw [decide_eq_false h]; exact Bool.false_le _
  obtain ⟨r, _, h⟩ := net_sorted_bool ((fun x : α => decide (net f i ≤ x)) ∘ f)
  rw [net_comp hφ] at h
  have hi := h i (by omega)
  have hj' := h j hj
  simp only [Nat.zero_add, Function.comp_apply, le_refl, decide_true] at hi hj'
  have hr : ¬ i < r := by
    intro hr
    rw [decide_eq_true hr] at hi
    exact absurd hi (by decide)
  rw [decide_eq_false (by omega : ¬ j < r)] at hj'
  exact of_decide_eq_true hj'

/-- Two sorted orders of the same entries are equal. -/
theorem sorted_unique {n : ℕ} (f : Fin n → α) (σ τ : Equiv.Perm (Fin n)) (hσ : ∀ i j, i < j → f (σ i) ≤ f (σ j))
    (hτ : ∀ i j, i < j → f (τ i) ≤ f (τ j)) (i : Fin n) : f (σ i) = f (τ i) := by
  have h : List.ofFn (f ∘ σ) = List.ofFn (f ∘ τ) :=
    List.Perm.eq_of_pairwise' (r := (· ≤ ·)) (List.pairwise_ofFn.2 fun i j h => hσ i j h) (List.pairwise_ofFn.2 fun i j h => hτ i j h)
      ((σ.ofFn_comp_perm f).trans (τ.ofFn_comp_perm f).symm)
  exact congrFun (List.ofFn_injective h) i

end Cert.SortProof.Net

end
-- ==== Proof.Stage.lean ====
/-
# `Stage`: what the kernel's arithmetic does to a column

The kernel writes a stage of its network with two rotations of a chunk of rows, a choice between them by a bit of the
row, and a minimum and a maximum. Here that text, over the extended reals, is the stage `Net.step` on each column.
-/
module

public import proofs.«01_k».proof.Proof.Common
public import proofs.«01_k».proof.Proof.Net
public import Idealize.ShloMosaic.Lib.KernelVsHost
public import Mathlib.Data.Nat.Bitwise

@[expose] public section

noncomputable section

namespace Cert.SortProof

open Cert.KernelIdeal Cert.KernelIdeal.Gen
open Idealize.ShloMosaic Idealize.ShloMosaic.TcCoe
open Cert.SortProof.Net

variable {m : ℕ}

/-- Column `c` of the chunk `v`, whose first row is row `b` of the whole array, is the sequence `f` from `b` on. -/
def Rep (b : ℕ) (c : Fin 128) (v : FVec Ideal (⟨2, ![m, 128]⟩ : Shape) .bf16) (f : ℕ → EReal) : Prop :=
  ∀ a : Fin m, v (ix a c) = f (b + a.val)

/-! ## The pieces at an index -/

/-- A column broadcast along the rows, at an index. -/
theorem bcast_apply {β : Type} (x : (⟨2, ![m, 1]⟩ : Shape).Idx → β) (h : (⟨2, ![m, 1]⟩ : Shape).Broadcasts ⟨2, ![m, 128]⟩)
    (a : Fin m) (c : Fin 128) : broadcastTo ⟨2, ![m, 128]⟩ x h (ix a c) = x (ix a 0) := by
  unfold broadcastTo
  refine congrArg x (idx_ext ?_ ?_)
  · by_cases h1 : m = 1
    · subst h1
      have := a.isLt
      simp
    · simp [h1]
  · simp

/-- A shape cast to the same shape is the identity. -/
theorem cast_self {β : Type} {s : Shape} (v : s.Idx → β) (h : s.ShapeCasts s) : shapeCast s v h = v :=
  funext fun i => congrArg v (Shape.reshapeEquiv_self h i)

/-- A broadcast to the same column shape is the identity. -/
theorem bcast_self {β : Type} (x : (⟨2, ![m, 1]⟩ : Shape).Idx → β) (h : (⟨2, ![m, 1]⟩ : Shape).Broadcasts ⟨2, ![m, 1]⟩)
    (a : Fin m) : broadcastTo ⟨2, ![m, 1]⟩ x h (ix a 0) = x (ix a 0) := by
  unfold broadcastTo
  refine congrArg x (idx_ext ?_ ?_)
  · by_cases h1 : m = 1
    · subst h1
      have := a.isLt
      simp
    · simp [h1]
  · simp

/-- A rotation along the rows, at an index. -/
theorem rot_apply {β : Type} (n : BitVec 32) (v : (⟨2, ![m, 128]⟩ : Shape).Idx → β) (h : (⟨2, ![m, 128]⟩ : Shape).Rotates 0 none)
    (a : Fin m) (c : Fin 128) (r : Fin m) (hr : r.val = (a.val + m - n.toNat % m) % m) :
    dynamicRotate 0 n none v h (ix a c) = v (ix r c) := by
  refine dynamicRotate_apply (s := ⟨2, ![m, 128]⟩) 0 n v h (ix a c) (ix r c) fun b => ?_
  match b with
  | ⟨0, _⟩ => exact hr
  | ⟨1, _⟩ => rfl

/-- The row's bit `s` is zero, as the kernel asks it. -/
def bitZero (jw : BitVec 32) (hi : (⟨2, ![m, 1]⟩ : Shape).Iotas .tc 32 [0]) : IVec (⟨2, ![m, 1]⟩ : Shape) 1 :=
  cmpi .eq (andi (iota .tc ⟨2, ![m, 1]⟩ 32 [0] hi) (broadcast ⟨2, ![m, 1]⟩ jw)) (broadcast ⟨2, ![m, 1]⟩ 0#32)

/-- It is, at a row. -/
theorem bitZero_apply {s : ℕ} (hm : m ≤ 2 ^ 32) (jw : BitVec 32) (hj : jw.toNat = 2 ^ s) (hi : (⟨2, ![m, 1]⟩ : Shape).Iotas .tc 32 [0])
    (a : Fin m) : bitZero jw hi (ix a 0) = BitVec.ofBool (decide (a.val / 2 ^ s % 2 = 0)) := by
  have ha := a.isLt
  show BitVec.ofBool ((BitVec.ofNat 32 (0 * m + a.val) &&& jw) == 0#32) = _
  congr 1
  rw [Nat.zero_mul, Nat.zero_add]
  rw [Bool.eq_iff_iff, beq_iff_eq, decide_eq_true_iff, ← BitVec.toNat_inj]
  rw [BitVec.toNat_and, BitVec.toNat_ofNat, Nat.mod_eq_of_lt (by omega), hj, Nat.and_two_pow, Nat.testBit_eq_decide_div_mod_eq]
  have := Nat.two_pow_pos s
  by_cases h : a.val / 2 ^ s % 2 = 1
  · simp [h]
  · have h0 : a.val / 2 ^ s % 2 = 0 := by omega
    simp [h0]

/-- A stage, as the kernel writes it. -/
def stageOf (jw mw : BitVec 32) (asc : IVec (⟨2, ![m, 1]⟩ : Shape) 1) (hi : (⟨2, ![m, 1]⟩ : Shape).Iotas .tc 32 [0])
    (hs : (⟨2, ![m, 1]⟩ : Shape).ShapeCasts ⟨2, ![m, 1]⟩) (hb : (⟨2, ![m, 1]⟩ : Shape).Broadcasts ⟨2, ![m, 128]⟩)
    (hr : (⟨2, ![m, 128]⟩ : Shape).Rotates 0 none) (v : FVec Ideal (⟨2, ![m, 128]⟩ : Shape) .bf16) : FVec Ideal (⟨2, ![m, 128]⟩ : Shape) .bf16 :=
  let p := select (broadcastTo ⟨2, ![m, 128]⟩ (shapeCast ⟨2, ![m, 1]⟩ (bitZero jw hi) hs) hb) (dynamicRotate 0 mw none v hr) (dynamicRotate 0 jw none v hr)
  select (broadcastTo ⟨2, ![m, 128]⟩ (shapeCast ⟨2, ![m, 1]⟩ (xori (xori (bitZero jw hi) asc) (constantI ⟨2, ![m, 1]⟩ 1 1#1)) hs) hb)
    (minimumf v p) (maximumf v p)

/-- Which of minimum and maximum is taken. -/
theorem keep_min (x y : Bool) : (BitVec.ofBool x ^^^ BitVec.ofBool y ^^^ 1#1 = 1) ↔ x = y := by
  cases x <;> cases y <;> decide

/-- A choice by a Boolean word. -/
theorem select_ofBool {β : Type} (x : Bool) (a b : β) : Scalar.select (BitVec.ofBool x) a b = if x then a else b := by
  cases x <;> rfl

/-- A pair inside a chunk. -/
theorem mate_lt {s : ℕ} (hm : 2 ^ (s + 1) ∣ m) {a : ℕ} (ha : a < m) : mate s a < m := by
  obtain ⟨q, rfl⟩ := hm
  have h := mate_div_succ s a
  have h1 : a / 2 ^ (s + 1) < q := Nat.div_lt_of_lt_mul ha
  rw [← h] at h1
  rw [mul_comm]
  exact (Nat.div_lt_iff_lt_mul (Nat.two_pow_pos _)).1 h1

/-- Rows of a chunk that starts at a multiple of the pair's block have the same side in it as in the whole array. -/
theorem low_add {s b : ℕ} (hb : 2 ^ (s + 1) ∣ b) (a : ℕ) : (b + a) / 2 ^ s % 2 = a / 2 ^ s % 2 := by
  obtain ⟨q, rfl⟩ := hb
  rw [pow_succ, show 2 ^ s * 2 * q + a = a + 2 ^ s * (2 * q) by ring, Nat.add_mul_div_left _ _ (Nat.two_pow_pos s)]
  omega

/-- The partner of a row of such a chunk lies in the chunk, at the partner's place. -/
theorem mate_add {s b : ℕ} (hb : 2 ^ (s + 1) ∣ b) (a : ℕ) : mate s (b + a) = b + mate s a := by
  unfold mate
  rw [low_add hb]
  split
  · omega
  · rename_i h
    have : 2 ^ s ≤ a := by
      by_contra hlt
      rw [Nat.div_eq_of_lt (by omega)] at h
      exact h rfl
    omega

/-- The kernel's stage is the network's, on each column. -/
theorem rep_stage {s b : ℕ} (h32 : m ≤ 2 ^ 32) (hm : 2 ^ (s + 1) ∣ m) (hb : 2 ^ (s + 1) ∣ b) {jw mw : BitVec 32} (hj : jw.toNat = 2 ^ s)
    (hmw : mw.toNat = m - 2 ^ s) {asc : IVec (⟨2, ![m, 1]⟩ : Shape) 1} {up : ℕ → Bool}
    (hasc : ∀ a : Fin m, asc (ix a 0) = BitVec.ofBool (up (b + a.val)))
    (hi : (⟨2, ![m, 1]⟩ : Shape).Iotas .tc 32 [0]) (hs : (⟨2, ![m, 1]⟩ : Shape).ShapeCasts ⟨2, ![m, 1]⟩)
    (hbc : (⟨2, ![m, 1]⟩ : Shape).Broadcasts ⟨2, ![m, 128]⟩) (hr : (⟨2, ![m, 128]⟩ : Shape).Rotates 0 none)
    {c : Fin 128} {v : FVec Ideal (⟨2, ![m, 128]⟩ : Shape) .bf16} {f : ℕ → EReal} (h : Rep b c v f) :
    Rep b c (stageOf jw mw asc hi hs hbc hr v) (step s up f) := by
  intro a
  have ha := a.isLt
  have hpos := Nat.two_pow_pos s
  have hlt : mate s a.val < m := mate_lt hm ha
  have hle : 2 ^ (s + 1) ≤ m := Nat.le_of_dvd (by omega) hm
  rw [pow_succ] at hle
  have hz := bitZero_apply h32 jw hj hi a
  have hp : (select (broadcastTo ⟨2, ![m, 128]⟩ (shapeCast ⟨2, ![m, 1]⟩ (bitZero jw hi) hs) hbc)
      (dynamicRotate 0 mw none v hr) (dynamicRotate 0 jw none v hr)) (ix a c) = f (mate s (b + a.val)) := by
    show Scalar.select _ _ _ = _
    rw [cast_self, bcast_apply, hz, select_ofBool, mate_add hb]
    by_cases hl : a.val / 2 ^ s % 2 = 0
    · rw [if_pos (decide_eq_true hl)]
      rw [rot_apply mw v hr a c ⟨mate s a.val, hlt⟩ ?_, h]
      show mate s a.val = _
      have e : mate s a.val = a.val + 2 ^ s := by unfold mate; rw [if_pos hl]
      rw [e] at hlt ⊢
      rw [hmw, Nat.mod_eq_of_lt (by omega : m - 2 ^ s < m), show a.val + m - (m - 2 ^ s) = a.val + 2 ^ s by omega, Nat.mod_eq_of_lt hlt]
    · rw [if_neg (by simpa using hl)]
      rw [rot_apply jw v hr a c ⟨mate s a.val, hlt⟩ ?_, h]
      show mate s a.val = _
      have hge : 2 ^ s ≤ a.val := by
        by_contra hlt
        rw [Nat.div_eq_of_lt (by omega)] at hl
        exact hl rfl
      have e : mate s a.val = a.val - 2 ^ s := by unfold mate; rw [if_neg hl]
      rw [e, hj, Nat.mod_eq_of_lt (by omega : 2 ^ s < m), show a.val + m - 2 ^ s = (a.val - 2 ^ s) + m by omega, Nat.add_mod_right,
        Nat.mod_eq_of_lt (by omega)]
  show Scalar.select _ _ _ = _
  rw [cast_self, bcast_apply]
  show (if bitZero jw hi (ix a 0) ^^^ asc (ix a 0) ^^^ 1#1 = 1 then min (v (ix a c)) (_) else max (v (ix a c)) (_)) = _
  rw [hz, hasc, hp, h a]
  unfold step
  rw [low_add hb]
  exact if_congr (keep_min _ _) rfl rfl

end Cert.SortProof

end
-- ==== Proof.Value.lean ====
/-
# `Value`: what the kernel ends with is its sorting network

Over the extended reals, each device's local sort is the first twelve phases of the network on its rows, and the merge
of the gathered array is the last two: so the kernel's result is `Net.net` of each column of the whole array.
-/
module

public import proofs.«01_k».proof.Proof.Stage

@[expose] public section

noncomputable section

namespace Cert.SortProof

open Cert.KernelIdeal Cert.KernelIdeal.Gen
open Idealize.ShloMosaic Idealize.ShloMosaic.TcCoe
open Cert.SortProof.Net

/-! ## The loops' words -/

/-- The trip counts. -/
theorem trips2 : k0_t2_loop.trips = 12 := by decide +kernel
theorem trips3 : ∀ k : Fin k0_t2_loop.trips, (k0_t3_loop k).trips = k.val + 1 := by decide +kernel
theorem trips4 (k : Fin k0_t2_loop.trips) : (k0_t4_loop k).trips = 0 := Nat.le_zero.1 (k0_t4_abs k).2.1
theorem trips7 : k0_t7_loop.trips = 13 := by decide +kernel
theorem trips9 : k0_t9_loop.trips = 13 := by decide +kernel

/-- The distance of a merge stage, and the rotation the other way. -/
theorem dist7 : ∀ k : Fin k0_t7_loop.trips, (Scalar.shli 1#32 (Scalar.subi 12#32 (Scf.iv 0#32 1#32 k)) : BitVec 32).toNat = 2 ^ (13 - 1 - k.val) := by
  decide +kernel
theorem back7 : ∀ k : Fin k0_t7_loop.trips,
    (Scalar.subi 8192#32 (Scalar.shli 1#32 (Scalar.subi 12#32 (Scf.iv 0#32 1#32 k))) : BitVec 32).toNat = 8192 - 2 ^ (13 - 1 - k.val) := by
  decide +kernel
theorem dist9 : ∀ k : Fin k0_t9_loop.trips, (Scalar.shli 1#32 (Scalar.subi 12#32 (Scf.iv 0#32 1#32 k)) : BitVec 32).toNat = 2 ^ (13 - 1 - k.val) := by
  decide +kernel
theorem back9 : ∀ k : Fin k0_t9_loop.trips,
    (Scalar.subi 8192#32 (Scalar.shli 1#32 (Scalar.subi 12#32 (Scf.iv 0#32 1#32 k))) : BitVec 32).toNat = 8192 - 2 ^ (13 - 1 - k.val) := by
  decide +kernel

/-- The distance of a stage of the local sort, and the rotation the other way. -/
theorem dist3 : ∀ (p : Fin k0_t2_loop.trips) (k : Fin (k0_t3_loop p).trips),
    (Scalar.shli 1#32 (Scalar.subi (Scalar.subi (Scf.iv 1#32 1#32 p) (Scf.iv 0#32 1#32 k)) 1#32) : BitVec 32).toNat = 2 ^ (p.val + 1 - 1 - k.val) := by
  decide +kernel
theorem back3 : ∀ (p : Fin k0_t2_loop.trips) (k : Fin (k0_t3_loop p).trips),
    (Scalar.subi 4096#32 (Scalar.shli 1#32 (Scalar.subi (Scalar.subi (Scf.iv 1#32 1#32 p) (Scf.iv 0#32 1#32 k)) 1#32)) : BitVec 32).toNat
      = 4096 - 2 ^ (p.val + 1 - 1 - k.val) := by
  decide +kernel
/-- The block size of a phase. -/
theorem blk2 : ∀ p : Fin k0_t2_loop.trips, (Scalar.shli 1#32 (Scf.iv 1#32 1#32 p) : BitVec 32).toNat = 2 ^ (p.val + 1) := by
  decide +kernel
/-- Whether the device is odd. -/
theorem odd_dev : ∀ c : Dev nD, (Scalar.cmpi .eq (Scalar.andi (Scalar.remsi (Scalar.divsi (Dev.word c) 1#32) 4#32) 1#32) 1#32 : BitVec 1)
    = BitVec.ofBool (decide (c.val % 2 = 1)) := by decide +kernel
/-- Whether the half is the first. -/
theorem first_half : ∀ h : Fin k0_t6_loop.trips, (Scalar.cmpi .eq (Scf.iv 0#32 1#32 h : BitVec 32) 0#32 : BitVec 1)
    = BitVec.ofBool (decide (h.val % 2 = 0)) := by decide +kernel

/-! ## The stages -/

/-- A merge stage of half `h`. -/
theorem rep_pay1 (h : Fin k0_t6_loop.trips) (k : Fin k0_t7_loop.trips) {c : Fin 128} {v : FVec Ideal S8192x128 .bf16} {f : ℕ → EReal}
    (hv : Rep (m := 8192) (8192 * h.val) c v f) : Rep (m := 8192) (8192 * h.val) c (k0_pay1 h k v) (step (13 - 1 - k.val) upH f) := by
  have hk : k.val < 13 := trips7 ▸ k.isLt
  have hd : 2 ^ (13 - 1 - k.val + 1) ∣ 8192 := by
    rw [show 8192 = 2 ^ 13 from rfl]
    exact pow_dvd_pow 2 (by omega)
  refine rep_stage (m := 8192) (by decide) hd (hd.trans (Nat.dvd_mul_right _ _)) (dist7 k) (back7 k) (up := upH)
    (asc := broadcastTo S8192x1 (broadcast S8192x1 (Scalar.cmpi .eq (Scf.iv 0#32 1#32 h : BitVec 32) 0#32)) broadcasts_S8192x1_S8192x1) ?_
    iota_S8192x1_d0_w32 shapeCasts_S8192x1_S8192x1 broadcasts_S8192x1_S8192x128 rotates_S8192x128_d0 hv
  intro a
  have ha := a.isLt
  show (Scalar.cmpi .eq (Scf.iv 0#32 1#32 h : BitVec 32) 0#32 : BitVec 1) = _
  rw [first_half]
  unfold upH
  rw [show (8192 * h.val + a.val) / 8192 = h.val by omega]

/-- A merge stage of the last merge. -/
theorem rep_pay5 (k : Fin k0_t9_loop.trips) {b : ℕ} {c : Fin 128} {v : FVec Ideal S8192x128 .bf16} {f : ℕ → EReal}
    (hv : Rep (m := 8192) (8192 * b) c v f) : Rep (m := 8192) (8192 * b) c (k0_pay5 k v) (step (13 - 1 - k.val) upT f) := by
  have hk : k.val < 13 := trips9 ▸ k.isLt
  have hd : 2 ^ (13 - 1 - k.val + 1) ∣ 8192 := by
    rw [show 8192 = 2 ^ 13 from rfl]
    exact pow_dvd_pow 2 (by omega)
  exact rep_stage (m := 8192) (by decide) hd (hd.trans (Nat.dvd_mul_right _ _)) (dist9 k) (back9 k) (up := upT)
    (asc := broadcastTo S8192x1 (broadcast S8192x1 1#1) broadcasts_S8192x1_S8192x1) (fun _ => rfl)
    iota_S8192x1_d0_w32 shapeCasts_S8192x1_S8192x1 broadcasts_S8192x1_S8192x128 rotates_S8192x128_d0 hv

/-- The direction of phase `p` on device `d`, at a row. -/
theorem pay8_apply (d : Dev nD) (p : Fin k0_t2_loop.trips) (a : Fin 4096) :
    k0_pay8 d p (ix a 0) = BitVec.ofBool (upL (p.val + 1) (4096 * d.val + a.val)) := by
  have ha := a.isLt
  have hz := bitZero_apply (m := 4096) (by decide) _ (blk2 p) iota_S4096x1_d0_w32 a
  show bitZero (m := 4096) (Scalar.shli 1#32 (Scf.iv 1#32 1#32 p)) iota_S4096x1_d0_w32 (ix a 0)
    ^^^ (Scalar.cmpi .eq (Scalar.andi (Scalar.remsi (Scalar.divsi (Dev.word d) 1#32) 4#32) 1#32) 1#32 : BitVec 1) = _
  rw [hz, odd_dev]
  unfold upL
  rw [show (4096 * d.val + a.val) % 4096 = a.val by omega, show (4096 * d.val + a.val) / 4096 = d.val by omega]
  generalize decide (a.val / 2 ^ (p.val + 1) % 2 = 0) = x
  generalize decide (d.val % 2 = 1) = y
  revert x y
  decide

/-- A stage of phase `p` of device `d`'s local sort. -/
theorem rep_pay9 (d : Dev nD) (p : Fin k0_t2_loop.trips) (k : Fin (k0_t3_loop p).trips) {c : Fin 128} {v : FVec Ideal S4096x128 .bf16} {f : ℕ → EReal}
    (hv : Rep (m := 4096) (4096 * d.val) c v f) :
    Rep (m := 4096) (4096 * d.val) c (k0_pay9 d p k v) (step (p.val + 1 - 1 - k.val) (upL (p.val + 1)) f) := by
  have hp : p.val < 12 := trips2 ▸ p.isLt
  have hk : k.val < p.val + 1 := trips3 p ▸ k.isLt
  have hd : 2 ^ (p.val + 1 - 1 - k.val + 1) ∣ 4096 := by
    rw [show 4096 = 2 ^ 12 from rfl]
    exact pow_dvd_pow 2 (by omega)
  exact rep_stage (m := 4096) (by decide) hd (hd.trans (Nat.dvd_mul_right _ _)) (dist3 p k) (back3 p k) (up := upL (p.val + 1))
    (asc := k0_pay8 d p) (pay8_apply d p)
    iota_S4096x1_d0_w32 shapeCasts_S4096x1_S4096x1 broadcasts_S4096x1_S4096x128 rotates_S4096x128_d0 hv

/-! ## The merges and the local sort -/

/-- A first merge. -/
theorem rep_half1 (h : Fin k0_t6_loop.trips) {c : Fin 128} {v : FVec Ideal S8192x128 .bf16} {f : ℕ → EReal}
    (hv : Rep (m := 8192) (8192 * h.val) c v f) : Rep (m := 8192) (8192 * h.val) c (half1 h v) (stages 13 upH 13 f) := by
  unfold half1 k0_pay2
  show Rep (m := 8192) _ c (shapeCast S8192x128 _ _) _
  rw [cast_self]
  have : Rep (m := 8192) (8192 * h.val) c (foldFin k0_t7_loop.trips (k0_pay1 (F := Ideal) h) v) (stages 13 upH k0_t7_loop.trips f) := foldFin_ind k0_t7_loop.trips (k0_pay1 (F := Ideal) h) (fun (k : ℕ) (acc : FVec Ideal S8192x128 .bf16) => Rep (m := 8192) (8192 * h.val) c acc (stages 13 upH k f)) v hv
    (fun k acc hacc => rep_pay1 h k hacc)
  rw [show stages 13 upH k0_t7_loop.trips f = stages 13 upH 13 f by rw [trips7]] at this
  exact this

/-- A last merge. -/
theorem rep_half2 {b : ℕ} {c : Fin 128} {v : FVec Ideal S8192x128 .bf16} {f : ℕ → EReal}
    (hv : Rep (m := 8192) (8192 * b) c v f) : Rep (m := 8192) (8192 * b) c (half2 v) (stages 13 upT 13 f) := by
  unfold half2 k0_pay6
  show Rep (m := 8192) _ c (shapeCast S8192x128 _ _) _
  rw [cast_self]
  have : Rep (m := 8192) (8192 * b) c (foldFin k0_t9_loop.trips (k0_pay5 (F := Ideal)) v) (stages 13 upT k0_t9_loop.trips f) := foldFin_ind k0_t9_loop.trips (k0_pay5 (F := Ideal)) (fun (k : ℕ) (acc : FVec Ideal S8192x128 .bf16) => Rep (m := 8192) (8192 * b) c acc (stages 13 upT k f)) v hv
    (fun k acc hacc => rep_pay5 k hacc)
  rw [show stages 13 upT k0_t9_loop.trips f = stages 13 upT 13 f by rw [trips9]] at this
  exact this

/-- A phase. -/
theorem rep_phase (d : Dev nD) (p : Fin k0_t2_loop.trips) {c : Fin 128} {v : FVec Ideal S4096x128 .bf16} {f : ℕ → EReal}
    (hv : Rep (m := 4096) (4096 * d.val) c v f) :
    Rep (m := 4096) (4096 * d.val) c (phase d p v) (stages (p.val + 1) (upL (p.val + 1)) (p.val + 1) f) := by
  have h3 := foldFin_ind (k0_t3_loop p).trips (k0_pay9 d p)
    (fun (k : ℕ) (acc : FVec Ideal S4096x128 .bf16) => Rep (m := 4096) (4096 * d.val) c acc (stages (p.val + 1) (upL (p.val + 1)) k f)) v hv
    (fun k acc hacc => rep_pay9 d p k hacc)
  unfold phase
  refine foldFin_ind (k0_t4_loop p).trips (k0_pay10 d p)
    (fun _ acc => Rep (m := 4096) (4096 * d.val) c acc (stages (p.val + 1) (upL (p.val + 1)) (p.val + 1) f)) _ ?_
    (fun k => absurd k.isLt (by have := trips4 p; omega))
  rw [show stages (p.val + 1) (upL (p.val + 1)) (k0_t3_loop p).trips f = stages (p.val + 1) (upL (p.val + 1)) (p.val + 1) f by rw [trips3 p]] at h3
  exact h3

/-- The local sort. -/
theorem rep_sort (d : Dev nD) {c : Fin 128} {v : FVec Ideal S4096x128 .bf16} {f : ℕ → EReal}
    (hv : Rep (m := 4096) (4096 * d.val) c v f) : Rep (m := 4096) (4096 * d.val) c (sortCh d v) (phases 12 f) := by
  have h := foldFin_ind k0_t2_loop.trips (phase d) (fun (p : ℕ) (acc : FVec Ideal S4096x128 .bf16) => Rep (m := 4096) (4096 * d.val) c acc (phases p f)) (k0_pay7 v)
    (by
      unfold k0_pay7
      show Rep (m := 4096) _ c (shapeCast S4096x128 _ _) _
      rw [cast_self]
      exact hv)
    (fun p acc hacc => rep_phase d p hacc)
  rw [show phases k0_t2_loop.trips f = phases 12 f by rw [trips2]] at h
  exact h

/-! ## The merge of a gathered chunk -/

/-- A half of a chunk. -/
theorem rep_rowHalf {c : Fin 128} {w : FVec Ideal S16384x128 .bf16} {f : ℕ → EReal} (hw : Rep (m := 16384) 0 c w f) (h : Fin 2) :
    Rep (m := 8192) (8192 * h.val) c (rowHalf w h) f := by
  intro a
  exact (hw ⟨8192 * h.val + a.val, by have := a.isLt; have := h.isLt; omega⟩).trans (congrArg f (Nat.zero_add _))

/-- A chunk given by its halves. -/
theorem rep_halves {c : Fin 128} {w : FVec Ideal S16384x128 .bf16} {f : ℕ → EReal} (u : Fin 2 → FVec Ideal S8192x128 .bf16)
    (hu : ∀ h : Fin 2, Rep (m := 8192) (8192 * h.val) c (u h) f) (hw : ∀ i, w i = u (halfOf i) (inHalf i)) : Rep (m := 16384) 0 c w f := by
  intro a
  rw [hw]
  have h := hu (halfOf (ix a c)) ⟨a.val % 8192, Nat.mod_lt _ (by decide)⟩
  refine Eq.trans ?_ (h.trans (congrArg f ?_))
  · rfl
  · show 8192 * (a.val / 8192) + a.val % 8192 = 0 + a.val
    omega

/-- The two first merges. -/
theorem rep_merge1 {c : Fin 128} {w : FVec Ideal S16384x128 .bf16} {f : ℕ → EReal} (hw : Rep (m := 16384) 0 c w f) :
    Rep (m := 16384) 0 c (merge1 w) (stages 13 upH 13 f) :=
  rep_halves (fun h => half1 (Fin.cast trips6.symm h) (rowHalf w h)) (fun h => rep_half1 (Fin.cast trips6.symm h) (rep_rowHalf hw h)) (fun _ => rfl)

/-- The two last merges. -/
theorem rep_merge2 {c : Fin 128} {w : FVec Ideal S16384x128 .bf16} {f : ℕ → EReal} (hw : Rep (m := 16384) 0 c w f) :
    Rep (m := 16384) 0 c (merge2 w) (stages 13 upT 13 f) :=
  rep_halves (fun h => half2 (rowHalf w h)) (fun h => rep_half2 (rep_rowHalf hw h)) (fun _ => rfl)

/-- The exchange across the halves is a stage of distance 8192. -/
theorem rep_cross {c : Fin 128} {w : FVec Ideal S16384x128 .bf16} {f : ℕ → EReal} (hw : Rep (m := 16384) 0 c w f) :
    Rep (m := 16384) 0 c (cross w) (step 13 upT f) := by
  intro a
  have ha := a.isLt
  have h0 := rep_rowHalf hw 0 ⟨a.val % 8192, Nat.mod_lt _ (by decide)⟩
  have h1 := rep_rowHalf hw 1 ⟨a.val % 8192, Nat.mod_lt _ (by decide)⟩
  have e0 : rowHalf w 0 (inHalf (ix a c)) = f (a.val % 8192) := h0.trans (congrArg f (by show 8192 * 0 + a.val % 8192 = _; omega))
  have e1 : rowHalf w 1 (inHalf (ix a c)) = f (8192 + a.val % 8192) := h1.trans (congrArg f (by show 8192 * 1 + a.val % 8192 = _; omega))
  unfold step mate cross upT k0_pay3 k0_pay4
  rw [Nat.zero_add]
  by_cases hlt : a.val < 8192
  · rw [if_pos (show ((ix a c : S16384x128.Idx) 0).val < 8192 from hlt)]
    have hl : a.val / 2 ^ 13 % 2 = 0 := by omega
    rw [if_pos (decide_eq_true hl), if_pos hl]
    show shapeCast S8192x128 _ _ _ = _
    rw [cast_self]
    show min (rowHalf w 0 (inHalf (ix a c))) (rowHalf w 1 (inHalf (ix a c))) = _
    rw [e0, e1, show a.val % 8192 = a.val by omega, show 8192 + a.val = a.val + 2 ^ 13 by omega]
  · rw [if_neg (show ¬ ((ix a c : S16384x128.Idx) 0).val < 8192 from hlt)]
    have hl : a.val / 2 ^ 13 % 2 = 1 := by omega
    rw [if_neg (fun h => by have := of_decide_eq_true h; omega), if_neg (by omega)]
    show shapeCast S8192x128 _ _ _ = _
    rw [cast_self]
    show max (rowHalf w 0 (inHalf (ix a c))) (rowHalf w 1 (inHalf (ix a c))) = _
    rw [e0, e1, show 8192 + a.val % 8192 = a.val by omega, show a.val % 8192 = a.val - 2 ^ 13 by omega, max_comm]

/-- The merge. -/
theorem rep_mergeCh {c : Fin 128} {w : FVec Ideal S16384x128 .bf16} {f : ℕ → EReal} (hw : Rep (m := 16384) 0 c w (phases 12 f)) :
    Rep (m := 16384) 0 c (mergeCh w) (net f) :=
  rep_merge2 (rep_cross (rep_merge1 hw))

/-! ## The whole array -/

/-- Column `j` of the whole array, as a sequence (zero past its end). -/
def column (x : FVec Ideal S16384x1024 .bf16) (j : Fin 1024) : ℕ → EReal :=
  fun i => if h : i < 16384 then x (ix (n0 := 16384) (n1 := 1024) ⟨i, h⟩ j) else 0

/-- Inside the array. -/
theorem column_lt (x : FVec Ideal S16384x1024 .bf16) (j : Fin 1024) {i : ℕ} (h : i < 16384) :
    column x j i = x (ix (n0 := 16384) (n1 := 1024) ⟨i, h⟩ j) := dif_pos h

/-- Chunk `k`'s column `c` is a column of the whole array. -/
theorem chunk_col (k : Fin 8) (c : Fin 128) : 128 * k.val + c.val < 1024 := by
  have := k.isLt
  have := c.isLt
  omega

/-- A device's sorted block at a row and a column of a chunk. -/
theorem locSort_apply (d : Dev nD) (x : FVec Ideal S4096x1024 .bf16) (r : Fin 4096) (k : Fin 8) (c : Fin 128) :
    locSort d x (ix r ⟨128 * k.val + c.val, chunk_col k c⟩) = sortCh d (colChunk x k) (ix r c) := by
  have hc := c.isLt
  have h1 : chunkOf (n := 4096) (ix r ⟨128 * k.val + c.val, chunk_col k c⟩) = k :=
    Fin.ext (by show (128 * k.val + c.val) / 128 = k.val; omega)
  have h2 : inChunk (n := 4096) (ix r ⟨128 * k.val + c.val, chunk_col k c⟩) = ix r c :=
    idx_ext rfl (by show (128 * k.val + c.val) % 128 = c.val; omega)
  unfold locSort
  rw [h1, h2]

/-- The gathered array at a row of device `d`. -/
theorem gathAll_apply (X : Dev nD → FVec Ideal S4096x1024 .bf16) (a : Fin 16384) (j : Fin 1024) (d : Dev nD) (r : Fin 4096)
    (hd : a.val / 4096 = d.val) (hr : a.val % 4096 = r.val) : gathAll X (ix a j) = locSort d (X d) (ix r j) := by
  have h1 : (⟨a.val / 4096, by have := a.isLt; show _ < 4; omega⟩ : Dev nD) = d := Fin.ext hd
  have h2 : (⟨a.val % 4096, Nat.mod_lt _ (by decide)⟩ : Fin 4096) = r := Fin.ext hr
  unfold gathAll
  simp only [ix_zero, ix_one, h1, h2]

/-- A chunk of the gathered array holds the first twelve phases of its columns, when each device's block is its rows of
the whole array. -/
theorem rep_gathered (x : FVec Ideal S16384x1024 .bf16) (X : Dev nD → FVec Ideal S4096x1024 .bf16)
    (hX : ∀ (d : Dev nD) (a : Fin 4096) (j : Fin 1024), X d (ix a j) = column x j (4096 * d.val + a.val)) (k : Fin 8) (c : Fin 128) :
    Rep (m := 16384) 0 c (colChunk (gathAll X) k) (phases 12 (column x ⟨128 * k.val + c.val, chunk_col k c⟩)) := by
  intro a
  have ha := a.isLt
  have h4 : a.val / 4096 < 4 := by omega
  have hr : Rep (m := 4096) (4096 * (a.val / 4096)) c (colChunk (X ⟨a.val / 4096, h4⟩) k) (column x ⟨128 * k.val + c.val, chunk_col k c⟩) :=
    fun r => hX ⟨a.val / 4096, h4⟩ r _
  have h := rep_sort ⟨a.val / 4096, h4⟩ hr ⟨a.val % 4096, Nat.mod_lt _ (by decide)⟩
  have e : colChunk (gathAll X) k (ix a c) = gathAll X (ix a ⟨128 * k.val + c.val, chunk_col k c⟩) := rfl
  rw [e, gathAll_apply X a _ ⟨a.val / 4096, h4⟩ ⟨a.val % 4096, Nat.mod_lt _ (by decide)⟩ rfl rfl, locSort_apply, h]
  refine congrArg _ ?_
  show 4096 * (a.val / 4096) + a.val % 4096 = 0 + a.val
  omega

/-- Device `d`'s result at a row and column: the network on the whole array's column, at its row of the whole. -/
theorem outOf_apply (x : FVec Ideal S16384x1024 .bf16) (X : Dev nD → FVec Ideal S4096x1024 .bf16)
    (hX : ∀ (d : Dev nD) (a : Fin 4096) (j : Fin 1024), X d (ix a j) = column x j (4096 * d.val + a.val)) (d : Dev nD)
    (a : Fin 4096) (j : Fin 1024) : outOf d (gathAll X) (ix a j) = net (column x j) (4096 * d.val + a.val) := by
  have ha := a.isLt
  have hj := j.isLt
  have hd : d.val < 4 := d.isLt
  have hm := rep_mergeCh (rep_gathered x X hX ⟨j.val / 128, by omega⟩ ⟨j.val % 128, Nat.mod_lt _ (by decide)⟩)
    ⟨4096 * d.val + a.val, by omega⟩
  refine Eq.trans ?_ (hm.trans ?_)
  · rfl
  · have : (⟨128 * (j.val / 128) + j.val % 128, chunk_col ⟨j.val / 128, by omega⟩ ⟨j.val % 128, Nat.mod_lt _ (by decide)⟩⟩ : Fin 1024) = j :=
      Fin.ext (by show 128 * (j.val / 128) + j.val % 128 = j.val; omega)
    show net (column x ⟨128 * (j.val / 128) + j.val % 128, _⟩) (0 + (4096 * d.val + a.val)) = _
    rw [this, Nat.zero_add]

end Cert.SortProof

end
-- ==== Proof.RefValue.lean ====
/-
# `RefValue`: the reference's sort is the network's result

Over the extended reals the reference's comparison is `<`, so its sort of a column lists the column in increasing order;
the network does too (`Net.net_mono`), and both reorder the column: they agree.
-/
module

public import proofs.«01_k».proof.Proof.Ref
public import proofs.«01_k».proof.Proof.Value
public import Idealize.ShloMosaic.Lib.SortFacts

@[expose] public section

noncomputable section

namespace Cert.SortProof.Ref

open Idealize.ShloMosaic
open Cert.SortProof.Net

/-- The reference's comparison over the extended reals is `<`. -/
theorem comparator_lt (l r : EReal) :
    Cert.ReferenceIdeal.comparator_f32_d0 (F := Ideal) l r = BitVec.ofBool (decide (l < r)) := by
  have hz : ∀ y : EReal, Scalar.select (FloatOps.cmpf (F := Ideal) (φ := .f32) .une y y) (FloatOps.ofBits (F := Ideal) .f32 0x7FC00000#32)
      (Scalar.select (FloatOps.cmpf (F := Ideal) (φ := .f32) .oeq y (FloatOps.ofBits (F := Ideal) .f32 0x00000000#32))
        (FloatOps.ofBits (F := Ideal) .f32 0x00000000#32) y) = y := by
    intro y
    have h1 : FloatOps.cmpf (F := Ideal) (φ := .f32) .une y y = BitVec.ofBool (decide (y ≠ y)) := rfl
    have h2 : FloatOps.cmpf (F := Ideal) (φ := .f32) .oeq y (FloatOps.ofBits (F := Ideal) .f32 0x00000000#32)
        = BitVec.ofBool (decide (y = FloatOps.ofBits (F := Ideal) .f32 0x00000000#32)) := rfl
    rw [h1, h2, select_ofBool, select_ofBool]
    simp only [ne_eq, not_true_eq_false, decide_false, Bool.false_eq_true, if_false, decide_eq_true_eq]
    split
    · rename_i h
      exact h.symm
    · rfl
  unfold Cert.ReferenceIdeal.comparator_f32_d0
  dsimp only
  rw [hz, hz]
  rfl

/-- A stable sort by `<` lists a finite sequence as any increasing reordering of it does. -/
theorem sortedFrom_unique {n : ℕ} (g : Fin n → EReal) (σ : Equiv.Perm (Fin n)) (hσ : ∀ i k, i < k → g (σ i) ≤ g (σ k)) (i : Fin n) :
    g (sortedFrom (fun k k' => decide (g k < g k')) i) = g (σ i) := by
  let R : Fin n → Fin n → Bool := fun k k' => decide (g k < g k')
  let τ : Equiv.Perm (Fin n) := Equiv.ofBijective (sortedFrom R) ⟨sortedFrom_injective R, sortedFrom_surjective R⟩
  refine sorted_unique g τ σ (fun i k hik => ?_) hσ i
  have h := sortedFrom_noInversion R R (fun p q h => by
      simp only [R, decide_eq_true_eq, decide_eq_false_iff_not, not_lt] at h ⊢
      exact h.le) (fun _ _ h => h) (fun p q r h h' => by
      simp only [R, decide_eq_false_iff_not, not_lt] at h h' ⊢
      exact h'.trans h) i k hik
  exact not_lt.1 (of_decide_eq_false h)

/-- The reference at a row and column: the network on the column, at the row. -/
theorem refOut_apply (x : FVec Ideal Cert.ReferenceIdeal.S16384x1024 .bf16) (a : Fin 16384) (j : Fin 1024) :
    refOut x (ix a j) = net (column x j) a.val := by
  let g : Fin 16384 → EReal := fun k => x (ix k j)
  let R : Fin 16384 → Fin 16384 → Bool := fun k k' => decide (g k < g k')
  have hsort : refOut x (ix a j) = g (sortedFrom R a) := by
    have halong : ∀ k : Fin 16384, Shape.Idx.along (s := Cert.ReferenceIdeal.S16384x1024) (ix a j) (0 : Fin 2) k = ix k j := by
      intro k
      unfold Shape.Idx.along
      funext b
      match b with
      | ⟨0, _⟩ => rfl
      | ⟨1, _⟩ => rfl
    have hR : (fun k k' : Fin 16384 => Cert.ReferenceIdeal.comparator_f32_d0 (F := Ideal)
        (x (Shape.Idx.along (s := Cert.ReferenceIdeal.S16384x1024) (ix a j) (0 : Fin 2) k))
        (x (Shape.Idx.along (s := Cert.ReferenceIdeal.S16384x1024) (ix a j) (0 : Fin 2) k')) == 1#1) = R := by
      funext k k'
      rw [halong, halong, comparator_lt]
      show (BitVec.ofBool (R k k') == 1#1) = R k k'
      cases R k k' <;> rfl
    have h0 : refOut x (ix a j) = x (Shape.Idx.along (s := Cert.ReferenceIdeal.S16384x1024) (ix a j) (0 : Fin 2)
        (sortedFrom (fun k k' : Fin 16384 => Cert.ReferenceIdeal.comparator_f32_d0 (F := Ideal)
          (x (Shape.Idx.along (s := Cert.ReferenceIdeal.S16384x1024) (ix a j) (0 : Fin 2) k))
          (x (Shape.Idx.along (s := Cert.ReferenceIdeal.S16384x1024) (ix a j) (0 : Fin 2) k')) == 1#1) a)) := rfl
    rw [h0, hR]
    exact congrArg x (halong _)
  have hcol : ∀ k : Fin 16384, column x j k.val = g k := fun k => column_lt x j k.isLt
  have hnet : Reorders 16384 (column x j) (net (column x j)) := by
    have h := reorders_net (column x j)
    rwa [show (2 : ℕ) ^ 14 = 16384 by norm_num] at h
  obtain ⟨σ, hσ⟩ := hnet
  have hσ' : ∀ i : Fin 16384, net (column x j) i.val = g (σ i) := fun i => (hσ i).trans (hcol (σ i))
  exact hsort.trans ((sortedFrom_unique g σ (fun i k hik => by
    rw [← hσ', ← hσ']
    exact net_mono _ (le_of_lt hik) (by have := k.isLt; omega)) a).trans (hσ' a).symm)

end Cert.SortProof.Ref

end
-- ==== Proof.Algebra.lean ====
/-
# `Algebra`: the kernel's result is the reference's, over the extended reals

On every device the kernel ends with its block of rows of the whole array's sorted columns, which is the block of the
reference's result.
-/
module

public import proofs.«01_k».proof.Defs
public import proofs.«01_k».proof.Proof.Launch
public import proofs.«01_k».proof.Proof.RefValue

@[expose] public section

noncomputable section

namespace Cert.SortProof

open Cert.KernelIdeal Cert.KernelIdeal.Gen
open Idealize.ShloMosaic Idealize.ShloMosaic.TcCoe
open Idealize.SL.Sem
open Cert.SortProof.Net

section
variable {F : FTy → Type} [FloatOps F]
variable (m : (ℓ : Loc nD τ sig) → Buf (Elt F) ℓ) (ρ : Dev nD → PrngReg)

/-- What the run leaves in the result's window: the device's rows of the merged array. -/
theorem finalA_out (c : Dev nD) :
    (win0_1.blk (0 : Fin 1)).view.read (Elt F) (finalA m ρ c (1 : Fin 2)) = outOf c (gath m ρ) := by
  have h := (dats m ρ 0 c).arrAt_succ (1 : Fin 2) (0 : Fin 1)
  have hN : cfg0.N = ((0 : Fin 1) : Fin cfg0.N).val + 1 := rfl
  have hf : (cfg0.win (1 : Fin 2)).flush (0 : Fin 1) = true := by decide
  unfold finalA
  rw [hN, h, if_pos hf]
  exact View.read_write_univ _ _

/-- The result's window is the whole result buffer. -/
theorem finalA_o (c : Dev nD) : finalA m ρ c (1 : Fin 2) = outOf c (gath m ρ) := by
  have hz : (fun a => (win0_1.index (0 : Fin 1)) a * main_v1_0.ty.shape.size a) = fun _ => 0 :=
    funext fun a => by fin_cases a <;> decide
  have hr := fun f => Memref.read_access_unit_zero (Elt F) main_v1_0 hz (fun a => by fin_cases a <;> decide) f
  have h := finalA_out m ρ c
  rw [hr] at h
  exact h

/-- The argument's window is the whole argument buffer. -/
theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> decide
  have hr := fun f => Memref.read_access_unit_zero (Elt F) main_arg0 hz (fun a => by fin_cases a <;> decide) f
  unfold xstg
  rw [hr]
  rfl

end

/-- Row `a` of block `d` is row `4096 d + a` of the whole array. -/
theorem block_ix {β : Type} (h : Layout.Tiles ⟨2, ![4096, 1024]⟩ ⟨2, ![16384, 1024]⟩ 0 4) (d : Fin 4)
    (v : (⟨2, ![16384, 1024]⟩ : Shape).Idx → β) (a : Fin 4096) (j : Fin 1024) (hr : 4096 * d.val + a.val < 16384) :
    Layout.block ⟨2, ![4096, 1024]⟩ ⟨2, ![16384, 1024]⟩ 0 4 d v h (ix a j) = v (ix ⟨4096 * d.val + a.val, hr⟩ j) := by
  rw [Layout.block_apply]
  refine congrArg v (idx_ext ?_ ?_)
  · show d.val * 4096 + a.val = 4096 * d.val + a.val
    rw [mul_comm]
  · rfl

/-- The kernel's merged array of the blocks of `x` is, on device `d`, the block of the reference's result. -/
theorem out_block (h : Layout.Tiles ⟨2, ![4096, 1024]⟩ ⟨2, ![16384, 1024]⟩ 0 4) (x : FVec Ideal S16384x1024 .bf16)
    (X : Dev nD → FVec Ideal S4096x1024 .bf16)
    (hX : ∀ d : Dev nD, X d = Layout.block ⟨2, ![4096, 1024]⟩ ⟨2, ![16384, 1024]⟩ 0 4 d x h) (d : Dev nD) :
    outOf d (gathAll X) = Layout.block ⟨2, ![4096, 1024]⟩ ⟨2, ![16384, 1024]⟩ 0 4 d (Ref.refOut x) h := by
  have hd : d.val < 4 := d.isLt
  funext i
  rw [← ix_eta i]
  generalize (i 0 : Fin 4096) = a
  generalize (i 1 : Fin 1024) = j
  have ha : a.val < 4096 := a.isLt
  have hlt : 4096 * d.val + a.val < 16384 := by omega
  rw [block_ix h d _ a j hlt]
  have hXc : ∀ (e : Dev nD) (b : Fin 4096) (k : Fin 1024), X e (ix b k) = column x k (4096 * e.val + b.val) := by
    intro e b k
    have he : e.val < 4 := e.isLt
    have hb := b.isLt
    have hl : 4096 * e.val + b.val < 16384 := by omega
    rw [hX e, column_lt x k hl]
    exact block_ix h e x b k hl
  rw [outOf_apply x X hXc d a j]
  exact (Ref.refOut_apply x ⟨4096 * d.val + a.val, hlt⟩ j).symm

/-- Over the extended reals, from blocks of one array, every device ends with its block of the reference's result. -/
theorem algebraic : Cert.algebraic_KernelIdeal_ReferenceIdeal := by
  intro m ρ m' ρ' _ hagree
  refine ⟨Ref.refOut (F := Ideal) (m' (((0 : Dev Cert.ReferenceIdeal.nD).tc : Thread _ Cert.ReferenceIdeal.τ).loc Cert.ReferenceIdeal.main_arg0)), ?_, ?_⟩
  · refine (θ_run defs _ _).mono
      (fun _ h c => ⟨(h.1 c (1 : Fin 2)).trans ?_, (h.1 c (0 : Fin 2)).trans (finalA_x m ρ c)⟩)
      (run_main (F := Ideal) m ρ)
    refine (finalA_o m ρ c).trans ?_
    exact out_block (by decide) _ (xstg m ρ) (fun d => (xstg_eq m ρ d).trans (hagree d)) c
  · exact (θ_run Cert.ReferenceIdeal.defs _ _).mono (fun _ h => h 0) (Ref.run_main (F := Ideal) m' ρ')

end Cert.SortProof

end
-- ==== Proof.lean ====
/-
# The claims

Each claim is proved in the modules under Proof/; this file names them.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Ref
public import proofs.«01_k».proof.Proof.Frames
public import proofs.«01_k».proof.Proof.Algebra

@[expose] public section

namespace Cert.Proof

/-- Every claim of the certificate: the three frames, that the ideal program is the kernel, and that over the extended
reals the kernel's blocks are those of the reference's sorted array. -/
theorem claim : Cert.Claim := ⟨Cert.Kernel.Gen.facts, Cert.KernelIdeal.Gen.facts, Cert.ReferenceIdeal.Gen.facts,
  Cert.SortProof.frame_kernel, Cert.SortProof.frame_kernelIdeal, Cert.SortProof.Ref.frame_reference, trivial,
  Cert.SortProof.algebraic⟩

end Cert.Proof

end
